-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v12_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S4x1024x256 : Shape := ⟨3, ![4, 1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4x1024x256 : S_.BroadcastsInDim S4x1024x256 (![] : Fin 0 → Fin S4x1024x256.rank)
  reducesTo_S4x1024x256_S_d0_1_2 : S4x1024x256.ReducesTo [0, 1, 2] S_

variable [Facts]

def fn {F : FTy → Type} [FloatOps F] (main_arg0 : FVec F S16384x256 .f32) (main_arg1 : FVec F S4x1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4x1024x256 .f32 := Host.absf main_arg1
  let main_cst_0 : FVec F S_ .f32 := constant S_ .f32 0x7F800000#32
  let main_v5 : FVec F S4x1024x256 .f32 := broadcastInDim S4x1024x256 ![] bcast_S_S4x1024x256 main_cst_0
  let main_v6 : IVec S4x1024x256 1 := cmpf .olt main_v4 main_v5
  let main_c_1 : IVec S_ 1 := constantI S_ 1 1#1
  let main_v7 : IVec S_ 1 := (fun x v => Host.reduce IntOp.andi x v reducesTo_S4x1024x256_S_d0_1_2 h_S_) main_v6 main_c_1
  let main_v8 : IVec S_ 1 := andi main_v3 main_v7
  main_v8
-- ==== Kernel.lean ====
abbrev S16384x256 : Shape := ⟨2, ![16384, 256]⟩
abbrev S4x1024x256 : Shape := ⟨3, ![4, 1024, 256]⟩
abbrev S_ : Shape := ⟨0, ![]⟩
abbrev S4x256x1024 : Shape := ⟨3, ![4, 256, 1024]⟩
abbrev S4x1024 : Shape := ⟨2, ![4, 1024]⟩
abbrev S16384x4 : Shape := ⟨2, ![16384, 4]⟩
abbrev S1x128 : Shape := ⟨2, ![1, 128]⟩
abbrev S512x256 : Shape := ⟨2, ![512, 256]⟩
abbrev S512x4 : Shape := ⟨2, ![512, 4]⟩
abbrev S512x1024 : Shape := ⟨2, ![512, 1024]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩
abbrev S1x512x256 : Shape := ⟨3, ![1, 512, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 25
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S4x1024x256, .f32⟩
  | .hbm, ⟨2, _⟩ => ⟨S_, .f32⟩
  | .hbm, ⟨3, _⟩ => ⟨S4x1024x256, .f32⟩
  | .hbm, ⟨4, _⟩ => ⟨S4x1024x256, .f32⟩
  | .hbm, ⟨5, _⟩ => ⟨S4x256x1024, .f32⟩
  | .hbm, ⟨6, _⟩ => ⟨S4x1024x256, .f32⟩
  | .hbm, ⟨7, _⟩ => ⟨S_, .f32⟩
  | .hbm, ⟨8, _⟩ => ⟨S4x1024, .f32⟩
  | .hbm, ⟨9, _⟩ => ⟨S4x1024x256, .bf16⟩
  | .hbm, ⟨10, _⟩ => ⟨S4x1024x256, .f32⟩
  | .hbm, ⟨11, _⟩ => ⟨S4x1024x256, .f32⟩
  | .hbm, ⟨12, _⟩ => ⟨S4x1024x256, .bf16⟩
  | .hbm, ⟨13, _⟩ => ⟨S4x1024x256, .f32⟩
  | .hbm, ⟨14, _⟩ => ⟨S4x1024x256, .f32⟩
  | .hbm, ⟨15, _⟩ => ⟨S4x1024x256, .bf16⟩
  | .hbm, ⟨16, _⟩ => ⟨S16384x256, .f32⟩
  | .hbm, ⟨17, _⟩ => ⟨S16384x4, .i32⟩
  | .hbm, ⟨18, _⟩ => ⟨S1x128, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S4x1024x256, .bf16⟩
  | .local _ .vmem, ⟨3, _⟩ => ⟨S4x1024x256, .bf16⟩
  | .local _ .vmem, ⟨4, _⟩ => ⟨S4x1024x256, .bf16⟩
  | .local _ .vmem, ⟨5, _⟩ => ⟨S4x256x1024, .f32⟩
  | .local _ .vmem, ⟨6, _⟩ => ⟨S4x1024, .f32⟩
  | .local _ .vmem, ⟨7, _⟩ => ⟨S512x256, .f32⟩
  | .local _ .vmem, ⟨8, _⟩ => ⟨S512x256, .f32⟩
  | .local _ .vmem, ⟨9, _⟩ => ⟨S512x4, .i32⟩
  | .local _ .vmem, ⟨10, _⟩ => ⟨S512x4, .i32⟩
  | .local _ .vmem, ⟨11, _⟩ => ⟨S1x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S16384x256 : Shape := ⟨2, ![16384, 256]⟩
abbrev S4x1024x256 : Shape := ⟨3, ![4, 1024, 256]⟩
abbrev S_ : Shape := ⟨0, ![]⟩
abbrev S1x1024x256 : Shape := ⟨3, ![1, 1024, 256]⟩
abbrev S1024x256 : Shape := ⟨2, ![1024, 256]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S1 : Shape := ⟨1, ![1]⟩
abbrev S1x1 : Shape := ⟨2, ![1, 1]⟩
abbrev S4 : Shape := ⟨1, ![4]⟩
abbrev S16384x4 : Shape := ⟨2, ![16384, 4]⟩

abbrev nBuf : Space → Nat
  | .hbm => 282
  | .vmem => 0
  | .smem => 0
  | _ => 0

abbrev hbmTy0_0 (i : Nat) : BufTy := match i % 128 with
  | 0 => ⟨S16384x256, .f32⟩
  | 1 => ⟨S4x1024x256, .f32⟩
  | 2 => ⟨S_, .f32⟩
  | 3 => ⟨S16384x256, .f32⟩
  | 4 => ⟨S1x1024x256, .f32⟩
  | 5 => ⟨S1024x256, .f32⟩
  | 6 => ⟨S16384x256, .f32⟩
  | 7 => ⟨S_, .f32⟩
  | 8 => ⟨S16384, .f32⟩
  | 9 => ⟨S16384x1, .f32⟩
  | 10 => ⟨S1024x256, .f32⟩
  | 11 => ⟨S_, .f32⟩
  | 12 => ⟨S1024, .f32⟩
  | 13 => ⟨S1x1024, .f32⟩
  | 14 => ⟨S16384x1024, .f32⟩
  | 15 => ⟨S16384x1024, .f32⟩
  | 16 => ⟨S16384x1024, .f32⟩
  | 17 => ⟨S256x1024, .f32⟩
  | 18 => ⟨S16384x1024, .f32⟩
  | 19 => ⟨S_, .f32⟩
  | 20 => ⟨S16384x1024, .f32⟩
  | 21 => ⟨S16384x1024, .f32⟩
  | 22 => ⟨S16384x1024, .f32⟩
  | 23 => ⟨S16384x1024, .i32⟩
  | 24 => ⟨S_, .f32⟩
  | 25 => ⟨S_, .i32⟩
  | 26 => ⟨S16384, .f32⟩
  | 27 => ⟨S16384, .i32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S1, .i32⟩
  | 37 => ⟨S_, .i32⟩
  | 38 => ⟨S16384x1, .i32⟩
  | 39 => ⟨S16384x1, .i1⟩
  | 40 => ⟨S1x1, .i32⟩
  | 41 => ⟨S16384x1, .i32⟩
  | 42 => ⟨S16384x1, .i1⟩
  | 43 => ⟨S16384x1, .i1⟩
  | 44 => ⟨S_, .i1⟩
  | 45 => ⟨S16384, .i1⟩
  | 46 => ⟨S16384x256, .f32⟩
  | 47 => ⟨S16384x256, .i1⟩
  | 48 => ⟨S_, .f32⟩
  | 49 => ⟨S16384x256, .f32⟩
  | 50 => ⟨S16384x256, .f32⟩
  | 51 => ⟨S16384x256, .f32⟩
  | 52 => ⟨S16384x256, .f32⟩
  | 53 => ⟨S_, .f32⟩
  | 54 => ⟨S_, .f32⟩
  | 55 => ⟨S_, .f32⟩
  | 56 => ⟨S_, .f32⟩
  | 57 => ⟨S16384x256, .f32⟩
  | 58 => ⟨S16384x256, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S16384x256, .f32⟩
  | 67 => ⟨S16384x256, .f32⟩
  | 68 => ⟨S16384x256, .f32⟩
  | 69 => ⟨S16384x256, .f32⟩
  | 70 => ⟨S1x1024x256, .f32⟩
  | 71 => ⟨S1024x256, .f32⟩
  | 72 => ⟨S16384x256, .f32⟩
  | 73 => ⟨S_, .f32⟩
  | 74 => ⟨S16384, .f32⟩
  | 75 => ⟨S16384x1, .f32⟩
  | 76 => ⟨S1024x256, .f32⟩
  | 77 => ⟨S_, .f32⟩
  | 78 => ⟨S1024, .f32⟩
  | 79 => ⟨S1x1024, .f32⟩
  | 80 => ⟨S16384x1024, .f32⟩
  | 81 => ⟨S16384x1024, .f32⟩
  | 82 => ⟨S16384x1024, .f32⟩
  | 83 => ⟨S256x1024, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S16384x1024, .i32⟩
  | 90 => ⟨S_, .f32⟩
  | 91 => ⟨S_, .i32⟩
  | 92 => ⟨S16384, .f32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x256, .f32⟩
  | 113 => ⟨S16384x256, .i1⟩
  | 114 => ⟨S_, .f32⟩
  | 115 => ⟨S16384x256, .f32⟩
  | 116 => ⟨S16384x256, .f32⟩
  | 117 => ⟨S16384x256, .f32⟩
  | 118 => ⟨S16384x256, .f32⟩
  | 119 => ⟨S_, .f32⟩
  | 120 => ⟨S_, .f32⟩
  | 121 => ⟨S_, .f32⟩
  | 122 => ⟨S_, .f32⟩
  | 123 => ⟨S16384x256, .f32⟩
  | 124 => ⟨S16384x256, .f32⟩
  | 125 => ⟨S_, .f32⟩
  | 126 => ⟨S_, .f32⟩
  | 127 => ⟨S_, .f32⟩
  | _ => ⟨S16384x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S16384x256, .f32⟩
  | 5 => ⟨S16384x256, .f32⟩
  | 6 => ⟨S16384x256, .f32⟩
  | 7 => ⟨S16384x256, .f32⟩
  | 8 => ⟨S1x1024x256, .f32⟩
  | 9 => ⟨S1024x256, .f32⟩
  | 10 => ⟨S16384x256, .f32⟩
  | 11 => ⟨S_, .f32⟩
  | 12 => ⟨S16384, .f32⟩
  | 13 => ⟨S16384x1, .f32⟩
  | 14 => ⟨S1024x256, .f32⟩
  | 15 => ⟨S_, .f32⟩
  | 16 => ⟨S1024, .f32⟩
  | 17 => ⟨S1x1024, .f32⟩
  | 18 => ⟨S16384x1024, .f32⟩
  | 19 => ⟨S16384x1024, .f32⟩
  | 20 => ⟨S16384x1024, .f32⟩
  | 21 => ⟨S256x1024, .f32⟩
  | 22 => ⟨S16384x1024, .f32⟩
  | 23 => ⟨S_, .f32⟩
  | 24 => ⟨S16384x1024, .f32⟩
  | 25 => ⟨S16384x1024, .f32⟩
  | 26 => ⟨S16384x1024, .f32⟩
  | 27 => ⟨S16384x1024, .i32⟩
  | 28 => ⟨S_, .f32⟩
  | 29 => ⟨S_, .i32⟩
  | 30 => ⟨S16384, .f32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S1, .i32⟩
  | 41 => ⟨S_, .i32⟩
  | 42 => ⟨S16384x1, .i32⟩
  | 43 => ⟨S16384x1, .i1⟩
  | 44 => ⟨S1x1, .i32⟩
  | 45 => ⟨S16384x1, .i32⟩
  | 46 => ⟨S16384x1, .i1⟩
  | 47 => ⟨S16384x1, .i1⟩
  | 48 => ⟨S_, .i1⟩
  | 49 => ⟨S16384, .i1⟩
  | 50 => ⟨S16384x256, .f32⟩
  | 51 => ⟨S16384x256, .i1⟩
  | 52 => ⟨S_, .f32⟩
  | 53 => ⟨S16384x256, .f32⟩
  | 54 => ⟨S16384x256, .f32⟩
  | 55 => ⟨S16384x256, .f32⟩
  | 56 => ⟨S16384x256, .f32⟩
  | 57 => ⟨S_, .f32⟩
  | 58 => ⟨S_, .f32⟩
  | 59 => ⟨S_, .f32⟩
  | 60 => ⟨S_, .f32⟩
  | 61 => ⟨S16384x256, .f32⟩
  | 62 => ⟨S16384x256, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S16384x256, .f32⟩
  | 71 => ⟨S16384x256, .f32⟩
  | 72 => ⟨S16384x256, .f32⟩
  | 73 => ⟨S16384x256, .f32⟩
  | 74 => ⟨S1x1024x256, .f32⟩
  | 75 => ⟨S1024x256, .f32⟩
  | 76 => ⟨S16384x256, .f32⟩
  | 77 => ⟨S_, .f32⟩
  | 78 => ⟨S16384, .f32⟩
  | 79 => ⟨S16384x1, .f32⟩
  | 80 => ⟨S1024x256, .f32⟩
  | 81 => ⟨S_, .f32⟩
  | 82 => ⟨S1024, .f32⟩
  | 83 => ⟨S1x1024, .f32⟩
  | 84 => ⟨S16384x1024, .f32⟩
  | 85 => ⟨S16384x1024, .f32⟩
  | 86 => ⟨S16384x1024, .f32⟩
  | 87 => ⟨S256x1024, .f32⟩
  | 88 => ⟨S16384x1024, .f32⟩
  | 89 => ⟨S_, .f32⟩
  | 90 => ⟨S16384x1024, .f32⟩
  | 91 => ⟨S16384x1024, .f32⟩
  | 92 => ⟨S16384x1024, .f32⟩
  | 93 => ⟨S16384x1024, .i32⟩
  | 94 => ⟨S_, .f32⟩
  | 95 => ⟨S_, .i32⟩
  | 96 => ⟨S16384, .f32⟩
  | 97 => ⟨S16384, .i32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S1, .i32⟩
  | 107 => ⟨S_, .i32⟩
  | 108 => ⟨S16384x1, .i32⟩
  | 109 => ⟨S16384x1, .i1⟩
  | 110 => ⟨S1x1, .i32⟩
  | 111 => ⟨S16384x1, .i32⟩
  | 112 => ⟨S16384x1, .i1⟩
  | 113 => ⟨S16384x1, .i1⟩
  | 114 => ⟨S_, .i1⟩
  | 115 => ⟨S16384, .i1⟩
  | 116 => ⟨S16384x256, .f32⟩
  | 117 => ⟨S16384x256, .i1⟩
  | 118 => ⟨S_, .f32⟩
  | 119 => ⟨S16384x256, .f32⟩
  | 120 => ⟨S16384x256, .f32⟩
  | 121 => ⟨S16384x256, .f32⟩
  | 122 => ⟨S16384x256, .f32⟩
  | 123 => ⟨S_, .f32⟩
  | 124 => ⟨S_, .f32⟩
  | 125 => ⟨S_, .f32⟩
  | 126 => ⟨S_, .f32⟩
  | 127 => ⟨S16384x256, .f32⟩
  | _ => ⟨S16384x256, .f32⟩

abbrev hbmTy0_2 (i : Nat) : BufTy := match i % 128 with
  | 0 => ⟨S16384x256, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S16384x256, .f32⟩
  | 9 => ⟨S16384x256, .f32⟩
  | 10 => ⟨S16384x256, .f32⟩
  | 11 => ⟨S16384x256, .f32⟩
  | 12 => ⟨S1, .f32⟩
  | 13 => ⟨S1, .f32⟩
  | 14 => ⟨S1, .f32⟩
  | 15 => ⟨S1, .f32⟩
  | 16 => ⟨S4, .f32⟩
  | 17 => ⟨S_, .f32⟩
  | 18 => ⟨S_, .f32⟩
  | 19 => ⟨S_, .f32⟩
  | 20 => ⟨S_, .f32⟩
  | 21 => ⟨S16384x1, .i32⟩
  | 22 => ⟨S16384x1, .i32⟩
  | 23 => ⟨S16384x1, .i32⟩
  | 24 => ⟨S16384x1, .i32⟩
  | 25 => ⟨S16384x4, .i32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_10 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call2_v0 : Ref sig .tc := ⟨.hbm, 89, rfl⟩
abbrev main_call2_cst : Ref sig .tc := ⟨.hbm, 90, rfl⟩
abbrev main_call2_c : Ref sig .tc := ⟨.hbm, 91, rfl⟩
abbrev main_call2_v1_0 : Ref sig .tc := ⟨.hbm, 92, rfl⟩
abbrev main_v49 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_cst_11 : Ref sig .tc := ⟨.hbm, 119, rfl⟩
abbrev main_v53 : Ref sig .tc := ⟨.hbm, 120, rfl⟩
abbrev main_cst_12 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_cst_13 : Ref sig .tc := ⟨.hbm, 125, rfl⟩
abbrev main_v57 : Ref sig .tc := ⟨.hbm, 126, rfl⟩
abbrev main_cst_14 : Ref sig .tc := ⟨.hbm, 127, rfl⟩
abbrev main_v58 : Ref sig .tc := ⟨.hbm, 128, rfl⟩
abbrev main_cst_15 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_cst_16 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_17 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_cst_18 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_call4_v0 : Ref sig .tc := ⟨.hbm, 155, rfl⟩
abbrev main_call4_cst : Ref sig .tc := ⟨.hbm, 156, rfl⟩
abbrev main_call4_c : Ref sig .tc := ⟨.hbm, 157, rfl⟩
abbrev main_call4_v1_0 : Ref sig .tc := ⟨.hbm, 158, rfl⟩
abbrev main_v81 : Ref sig .tc := ⟨.hbm, 159, rfl⟩
abbrev main_call5_c : Ref sig .tc := ⟨.hbm, 160, rfl⟩
abbrev main_call5_v0 : Ref sig .tc := ⟨.hbm, 161, rfl⟩
abbrev main_call5_v1 : Ref sig .tc := ⟨.hbm, 162, rfl⟩
abbrev main_call5_c_0 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_c_1 : Ref sig .tc := ⟨.hbm, 168, rfl⟩
abbrev main_call5_c_2 : Ref sig .tc := ⟨.hbm, 169, rfl⟩
abbrev main_call5_v6 : Ref sig .tc := ⟨.hbm, 170, rfl⟩
abbrev main_call5_v7 : Ref sig .tc := ⟨.hbm, 171, rfl⟩
abbrev main_call5_v8 : Ref sig .tc := ⟨.hbm, 172, rfl⟩
abbrev main_call5_v9 : Ref sig .tc := ⟨.hbm, 173, rfl⟩
abbrev main_call5_v10 : Ref sig .tc := ⟨.hbm, 174, rfl⟩
abbrev main_call5_v11 : Ref sig .tc := ⟨.hbm, 175, rfl⟩
abbrev main_call5_c_3 : Ref sig .tc := ⟨.hbm, 176, rfl⟩
abbrev main_call5_v12 : Ref sig .tc := ⟨.hbm, 177, rfl⟩
abbrev main_call5_v13 : Ref sig .tc := ⟨.hbm, 178, rfl⟩
abbrev main_call5_v14 : Ref sig .tc := ⟨.hbm, 179, rfl⟩
abbrev main_call5_cst : Ref sig .tc := ⟨.hbm, 180, rfl⟩
abbrev main_call5_v15 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_cst_19 : Ref sig .tc := ⟨.hbm, 185, rfl⟩
abbrev main_v85 : Ref sig .tc := ⟨.hbm, 186, rfl⟩
abbrev main_cst_20 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_cst_21 : Ref sig .tc := ⟨.hbm, 191, rfl⟩
abbrev main_v89 : Ref sig .tc := ⟨.hbm, 192, rfl⟩
abbrev main_cst_22 : Ref sig .tc := ⟨.hbm, 193, rfl⟩
abbrev main_v90 : Ref sig .tc := ⟨.hbm, 194, rfl⟩
abbrev main_cst_23 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_cst_24 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_cst_25 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_cst_26 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_call6_v0 : Ref sig .tc := ⟨.hbm, 221, rfl⟩
abbrev main_call6_cst : Ref sig .tc := ⟨.hbm, 222, rfl⟩
abbrev main_call6_c : Ref sig .tc := ⟨.hbm, 223, rfl⟩
abbrev main_call6_v1_0 : Ref sig .tc := ⟨.hbm, 224, rfl⟩
abbrev main_v113 : Ref sig .tc := ⟨.hbm, 225, rfl⟩
abbrev main_call7_c : Ref sig .tc := ⟨.hbm, 226, rfl⟩
abbrev main_call7_v0 : Ref sig .tc := ⟨.hbm, 227, rfl⟩
abbrev main_call7_v1 : Ref sig .tc := ⟨.hbm, 228, rfl⟩
abbrev main_call7_c_0 : Ref sig .tc := ⟨.hbm, 229, rfl⟩
abbrev main_call7_v2 : Ref sig .tc := ⟨.hbm, 230, rfl⟩
abbrev main_call7_v3 : Ref sig .tc := ⟨.hbm, 231, rfl⟩
abbrev main_call7_v4 : Ref sig .tc := ⟨.hbm, 232, rfl⟩
abbrev main_call7_v5 : Ref sig .tc := ⟨.hbm, 233, rfl⟩
abbrev main_call7_c_1 : Ref sig .tc := ⟨.hbm, 234, rfl⟩
abbrev main_call7_c_2 : Ref sig .tc := ⟨.hbm, 235, rfl⟩
abbrev main_call7_v6 : Ref sig .tc := ⟨.hbm, 236, rfl⟩
abbrev main_call7_v7 : Ref sig .tc := ⟨.hbm, 237, rfl⟩
abbrev main_call7_v8 : Ref sig .tc := ⟨.hbm, 238, rfl⟩
abbrev main_call7_v9 : Ref sig .tc := ⟨.hbm, 239, rfl⟩
abbrev main_call7_v10 : Ref sig .tc := ⟨.hbm, 240, rfl⟩
abbrev main_call7_v11 : Ref sig .tc := ⟨.hbm, 241, rfl⟩
abbrev main_call7_c_3 : Ref sig .tc := ⟨.hbm, 242, rfl⟩
abbrev main_call7_v12 : Ref sig .tc := ⟨.hbm, 243, rfl⟩
abbrev main_call7_v13 : Ref sig .tc := ⟨.hbm, 244, rfl⟩
abbrev main_call7_v14 : Ref sig .tc := ⟨.hbm, 245, rfl⟩
abbrev main_call7_cst : Ref sig .tc := ⟨.hbm, 246, rfl⟩
abbrev main_call7_v15 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_cst_27 : Ref sig .tc := ⟨.hbm, 251, rfl⟩
abbrev main_v117 : Ref sig .tc := ⟨.hbm, 252, rfl⟩
abbrev main_cst_28 : Ref sig .tc := ⟨.hbm, 253, rfl⟩
abbrev main_v118 : Ref sig .tc := ⟨.hbm, 254, rfl⟩
abbrev main_v119 : Ref sig .tc := ⟨.hbm, 255, rfl⟩
abbrev main_v120 : Ref sig .tc := ⟨.hbm, 256, rfl⟩
abbrev main_cst_29 : Ref sig .tc := ⟨.hbm, 257, rfl⟩
abbrev main_v121 : Ref sig .tc := ⟨.hbm, 258, rfl⟩
abbrev main_cst_30 : Ref sig .tc := ⟨.hbm, 259, rfl⟩
abbrev main_v122 : Ref sig .tc := ⟨.hbm, 260, rfl⟩
abbrev main_cst_31 : Ref sig .tc := ⟨.hbm, 261, rfl⟩
abbrev main_v123 : Ref sig .tc := ⟨.hbm, 262, rfl⟩
abbrev main_v124 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_v133 : Ref sig .tc := ⟨.hbm, 272, rfl⟩
abbrev main_cst_32 : Ref sig .tc := ⟨.hbm, 273, rfl⟩
abbrev main_v134 : Ref sig .tc := ⟨.hbm, 274, rfl⟩
abbrev main_cst_33 : Ref sig .tc := ⟨.hbm, 275, rfl⟩
abbrev main_v135 : Ref sig .tc := ⟨.hbm, 276, rfl⟩
abbrev main_v136 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩

abbrev nD : Nat := 1
abbrev τ : Topo := Topo.v7x

variable {F : FTy → Type} [FloatOps F]
-- ==== Proof.RefOps.lean ====
/- The reference's run. This module lists its 280 host operations, cut where the mathematics cuts them:
   `opsPre` (the zero array), then for each of the four levels `opsA` (the distances and the index of the least),
   `opsB` (the code at that index) and `opsC` (the level's loss, the new sum and the new residual), then `opsTail`
   (the mean of the losses, the four index columns side by side). A level that the printed program spreads over two of
   its parts has its list in two pieces. The run itself is `Line.run`: every buffer ends at the fold of the lists. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The four losses side by side, as the reference stacks them. -/
def stackLosses : (main_v129 : Ref sig .tc).ty.Contents (Elt F) → (main_v130 : Ref sig .tc).ty.Contents (Elt F) → (main_v131 : Ref sig .tc).ty.Contents (Elt F) → (main_v132 : Ref sig .tc).ty.Contents (Elt F) → (main_v133 : Ref sig .tc).ty.Contents (Elt F) :=
  (fun u0 u1 u2 u3 => (concatenate S4 0 [⟨S1, (u0 : (⟨S1, .f32⟩ : BufTy).Contents (Elt F))⟩, ⟨S1, (u1 : (⟨S1, .f32⟩ : BufTy).Contents (Elt F))⟩, ⟨S1, (u2 : (⟨S1, .f32⟩ : BufTy).Contents (Elt F))⟩, ⟨S1, (u3 : (⟨S1, .f32⟩ : BufTy).Contents (Elt F))⟩] concatenates_S1_S1_S1_S1_S4_d0 : (⟨S4, .f32⟩ : BufTy).Contents (Elt F)))

/-- The four index columns side by side, as the reference stacks them. -/
def stackIndices : (main_v136 : Ref sig .tc).ty.Contents (Elt F) → (main_v137 : Ref sig .tc).ty.Contents (Elt F) → (main_v138 : Ref sig .tc).ty.Contents (Elt F) → (main_v139 : Ref sig .tc).ty.Contents (Elt F) → (main_v140 : Ref sig .tc).ty.Contents (Elt F) :=
  (fun u0 u1 u2 u3 => (concatenate S16384x4 1 [⟨S16384x1, (u0 : (⟨S16384x1, .i32⟩ : BufTy).Contents (Elt F))⟩, ⟨S16384x1, (u1 : (⟨S16384x1, .i32⟩ : BufTy).Contents (Elt F))⟩, ⟨S16384x1, (u2 : (⟨S16384x1, .i32⟩ : BufTy).Contents (Elt F))⟩, ⟨S16384x1, (u3 : (⟨S16384x1, .i32⟩ : BufTy).Contents (Elt F))⟩] concatenates_S16384x1_S16384x1_S16384x1_S16384x1_S16384x4_d1 : (⟨S16384x4, .i32⟩ : BufTy).Contents (Elt F)))

/-- Window `Pre`: 2 operations, `main_cst` to `main_v0`. -/
abbrev opsPre : List (HloOp τ sig (Elt F)) :=
  [ nullary main_cst (constant S_ .f32 0x00000000#32),
    unary main_cst main_v0 (broadcastInDim S16384x256 ![] bcast_S_S16384x256 : (⟨S_, .f32⟩ : BufTy).Contents (Elt F) → (⟨S16384x256, .f32⟩ : BufTy).Contents (Elt F)) ]

/-- Window `A0`: 24 operations, `main_v1` to `main_v17`. -/
abbrev opsA0 : List (HloOp τ sig (Elt F)) :=
  [ unary main_arg1 main_v1 ((extractStridedSlice S1x1024x256 ![0, 0, 0] · slices_S4x1024x256_S1x1024x256_0_0_0) : (⟨S4x1024x256, .f32⟩ : BufTy).Contents (Elt F) → (⟨S1x1024x256, .f32⟩ : BufTy).Contents (Elt F)),
    reshape main_v1 main_v2 (rfl : (.f32 : EltTy) = .f32) shapeCasts_S1x1024x256_S1024x256,
    binary main_arg0 main_arg0 main_v3 (mulf : (⟨S16384x256, .f32⟩ : BufTy).Contents (Elt F) → (⟨S16384x256, .f32⟩ : BufTy).Contents (Elt F) → (⟨S16384x256, .f32⟩ : BufTy).Contents (Elt F)),
    nullary main_cst_0 (constant S_ .f32 0x00000000#32),
    binary main_v3 main_cst_0 main_v4 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    binary main_v2 main_v2 main_v6 (mulf : (⟨S1024x256, .f32⟩ : BufTy).Contents (Elt F) → (⟨S1024x256, .f32⟩ : BufTy).Contents (Elt F) → (⟨S1024x256, .f32⟩ : BufTy).Contents (Elt F)),
    nullary main_cst_1 (constant S_ .f32 0x00000000#32),
    binary main_v6 main_cst_1 main_v7 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v7 main_v8 (broadcastInDim S1x1024 ![1] bcast_S1024_S1x1024_1 : (⟨S1024, .f32⟩ : BufTy).Contents (Elt F) → (⟨S1x1024, .f32⟩ : BufTy).Contents (Elt F)),
    unary main_v5 main_v9 (broadcastInDim S16384x1024 ![0, 1] bcast_S16384x1_S16384x1024_0_1 : (⟨S16384x1, .f32⟩ : BufTy).Contents (Elt F) → (⟨S16384x1024, .f32⟩ : BufTy).Contents (Elt F)),
    unary main_v8 main_v10 (broadcastInDim S16384x1024 ![0, 1] bcast_S1x1024_S16384x1024_0_1 : (⟨S1x1024, .f32⟩ : BufTy).Contents (Elt F) → (⟨S16384x1024, .f32⟩ : BufTy).Contents (Elt F)),
    binary main_v9 main_v10 main_v11 (addf : (⟨S16384x1024, .f32⟩ : BufTy).Contents (Elt F) → (⟨S16384x1024, .f32⟩ : BufTy).Contents (Elt F) → (⟨S16384x1024, .f32⟩ : BufTy).Contents (Elt F)),
    unary main_v2 main_v12 ((transpose S256x1024 [1, 0] · transposes_S1024x256_S256x1024_1_0) : (⟨S1024x256, .f32⟩ : BufTy).Contents (Elt F) → (⟨S256x1024, .f32⟩ : BufTy).Contents (Elt F)),
    binary main_arg0 main_v12 main_v13 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_2 (constant S_ .f32 0x40000000#32),
    unary main_cst_2 main_v14 (broadcastInDim S16384x1024 ![] bcast_S_S16384x1024 : (⟨S_, .f32⟩ : BufTy).Contents (Elt F) → (⟨S16384x1024, .f32⟩ : BufTy).Contents (Elt F)),
    binary main_v14 main_v13 main_v15 (mulf : (⟨S16384x1024, .f32⟩ : BufTy).Contents (Elt F) → (⟨S16384x1024, .f32⟩ : BufTy).Contents (Elt F) → (⟨S16384x1024, .f32⟩ : BufTy).Contents (Elt F)),
    binary main_v11 main_v15 main_v16 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v16) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x1024_S16384_d1 h_S_ j).1),
    TRef.quaternary (TRef.of (T := ⟨S16384x1024, .f32⟩) main_v16) (TRef.of (T := ⟨S16384x1024, .i32⟩) main_call0_v0) (TRef.of (T := ⟨S_, .f32⟩) main_call0_cst) (TRef.of (T := ⟨S_, .i32⟩) main_call0_c) (TRef.of (T := ⟨S16384, .i32⟩) main_v17) (fun x y u v j => (Host.argReduce reducer_argmin_f32_i32 x y u v reducesTo_S16384x1024_S16384_d1 h_S_ j).2) ]

/-- Window `B0`: 23 operations, `main_call1_c` to `main_v18`. -/
abbrev opsB0 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16384, .i32⟩) main_call1_v0) (broadcastInDim S16384 ![] bcast_S_S16384),
    TRef.binary (TRef.of (T := ⟨S16384, .i32⟩) main_v17) (TRef.of (T := ⟨S16384, .i32⟩) main_call1_v0) (TRef.of (T := ⟨S16384, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16384, .i32⟩) main_call1_v2) (broadcastInDim S16384 ![] bcast_S_S16384),
    TRef.binary (TRef.of (T := ⟨S16384, .i32⟩) main_v17) (TRef.of (T := ⟨S16384, .i32⟩) main_call1_v2) (TRef.of (T := ⟨S16384, .i32⟩) main_call1_v3) addi,
    TRef.ternary (TRef.of (T := ⟨S16384, .i1⟩) main_call1_v1) (TRef.of (T := ⟨S16384, .i32⟩) main_call1_v3) (TRef.of (T := ⟨S16384, .i32⟩) main_v17) (TRef.of (T := ⟨S16384, .i32⟩) main_call1_v4) select,
    TRef.unary (TRef.of (T := ⟨S16384, .i32⟩) main_call1_v4) (TRef.of (T := ⟨S16384x1, .i32⟩) main_call1_v5) (broadcastInDim S16384x1 ![0] bcast_S16384_S16384x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16384x1, .i32⟩) main_call1_v6) (broadcastInDim S16384x1 ![] bcast_S_S16384x1),
    TRef.binary (TRef.of (T := ⟨S16384x1, .i32⟩) main_call1_v5) (TRef.of (T := ⟨S16384x1, .i32⟩) main_call1_v6) (TRef.of (T := ⟨S16384x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16384x1, .i32⟩) main_call1_v9) (broadcastInDim S16384x1 ![0, 1] bcast_S1x1_S16384x1_0_1),
    TRef.binary (TRef.of (T := ⟨S16384x1, .i32⟩) main_call1_v5) (TRef.of (T := ⟨S16384x1, .i32⟩) main_call1_v9) (TRef.of (T := ⟨S16384x1, .i1⟩) main_call1_v10) (cmpi .sle),
    TRef.binary (TRef.of (T := ⟨S16384x1, .i1⟩) main_call1_v7) (TRef.of (T := ⟨S16384x1, .i1⟩) main_call1_v10) (TRef.of (T := ⟨S16384x1, .i1⟩) main_call1_v11) andi,
    TRef.nullary (TRef.of (T := ⟨S_, .i1⟩) main_call1_c_3) (constantI S_ 1 1#1),
    TRef.binary (TRef.of (T := ⟨S16384x1, .i1⟩) main_call1_v11) (TRef.of (T := ⟨S_, .i1⟩) main_call1_c_3) (TRef.of (T := ⟨S16384, .i1⟩) main_call1_v12) (fun x v => Host.reduce IntOp.andi x v reducesTo_S16384x1_S16384_d1 h_S_),
    TRef.binary (TRef.of (T := ⟨S1024x256, .f32⟩) main_v2) (TRef.of (T := ⟨S16384x1, .i32⟩) main_call1_v5) (TRef.of (T := ⟨S16384x256, .f32⟩) main_call1_v13) (fun x i => Host.gather gather_S1024x256_S16384x1_S16384x256_1_0_n_n_0_1_1256 x i),
    TRef.unary (TRef.of (T := ⟨S16384, .i1⟩) main_call1_v12) (TRef.of (T := ⟨S16384x256, .i1⟩) main_call1_v14) (broadcastInDim S16384x256 ![0] bcast_S16384_S16384x256_0),
    TRef.nullary (TRef.of (T := ⟨S_, .f32⟩) main_call1_cst) (constant S_ .f32 0x7FC00000#32),
    TRef.unary (TRef.of (T := ⟨S_, .f32⟩) main_call1_cst) (TRef.of (T := ⟨S16384x256, .f32⟩) main_call1_v15) (broadcastInDim S16384x256 ![] bcast_S_S16384x256),
    TRef.ternary (TRef.of (T := ⟨S16384x256, .i1⟩) main_call1_v14) (TRef.of (T := ⟨S16384x256, .f32⟩) main_call1_v13) (TRef.of (T := ⟨S16384x256, .f32⟩) main_call1_v15) (TRef.of (T := ⟨S16384x256, .f32⟩) main_v18) select ]

/-- Window `C0`: 19 operations, `main_v19` to `main_v32`. -/
abbrev opsC0 : List (HloOp τ sig (Elt F)) :=
  [ binary main_v18 main_arg0 main_v19 (subf : (⟨S16384x256, .f32⟩ : BufTy).Contents (Elt F) → (⟨S16384x256, .f32⟩ : BufTy).Contents (Elt F) → (⟨S16384x256, .f32⟩ : BufTy).Contents (Elt F)),
    binary main_v19 main_v19 main_v20 (mulf : (⟨S16384x256, .f32⟩ : BufTy).Contents (Elt F) → (⟨S16384x256, .f32⟩ : BufTy).Contents (Elt F) → (⟨S16384x256, .f32⟩ : BufTy).Contents (Elt F)),
    nullary main_cst_3 (constant S_ .f32 0x00000000#32),
    binary main_v20 main_cst_3 main_v21 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_4 (constant S_ .f32 0x4A800000#32),
    binary main_v21 main_cst_4 main_v22 (Host.divf : (⟨S_, .f32⟩ : BufTy).Contents (Elt F) → (⟨S_, .f32⟩ : BufTy).Contents (Elt F) → (⟨S_, .f32⟩ : BufTy).Contents (Elt F)),
    binary main_v18 main_arg0 main_v23 (subf : (⟨S16384x256, .f32⟩ : BufTy).Contents (Elt F) → (⟨S16384x256, .f32⟩ : BufTy).Contents (Elt F) → (⟨S16384x256, .f32⟩ : BufTy).Contents (Elt F)),
    binary main_v23 main_v23 main_v24 (mulf : (⟨S16384x256, .f32⟩ : BufTy).Contents (Elt F) → (⟨S16384x256, .f32⟩ : BufTy).Contents (Elt F) → (⟨S16384x256, .f32⟩ : BufTy).Contents (Elt F)),
    nullary main_cst_5 (constant S_ .f32 0x00000000#32),
    binary main_v24 main_cst_5 main_v25 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_6 (constant S_ .f32 0x4A800000#32),
    binary main_v25 main_cst_6 main_v26 (Host.divf : (⟨S_, .f32⟩ : BufTy).Contents (Elt F) → (⟨S_, .f32⟩ : BufTy).Contents (Elt F) → (⟨S_, .f32⟩ : BufTy).Contents (Elt F)),
    nullary main_cst_7 (constant S_ .f32 0x3E800000#32),
    binary main_cst_7 main_v26 main_v27 (mulf : (⟨S_, .f32⟩ : BufTy).Contents (Elt F) → (⟨S_, .f32⟩ : BufTy).Contents (Elt F) → (⟨S_, .f32⟩ : BufTy).Contents (Elt F)),
    binary main_v22 main_v27 main_v28 (addf : (⟨S_, .f32⟩ : BufTy).Contents (Elt F) → (⟨S_, .f32⟩ : BufTy).Contents (Elt F) → (⟨S_, .f32⟩ : BufTy).Contents (Elt F)),
    binary main_v18 main_arg0 main_v29 (subf : (⟨S16384x256, .f32⟩ : BufTy).Contents (Elt F) → (⟨S16384x256, .f32⟩ : BufTy).Contents (Elt F) → (⟨S16384x256, .f32⟩ : BufTy).Contents (Elt F)),
    binary main_arg0 main_v29 main_v30 (addf : (⟨S16384x256, .f32⟩ : BufTy).Contents (Elt F) → (⟨S16384x256, .f32⟩ : BufTy).Contents (Elt F) → (⟨S16384x256, .f32⟩ : BufTy).Contents (Elt F)),
    binary main_arg0 main_v30 main_v31 (subf : (⟨S16384x256, .f32⟩ : BufTy).Contents (Elt F) → (⟨S16384x256, .f32⟩ : BufTy).Contents (Elt F) → (⟨S16384x256, .f32⟩ : BufTy).Contents (Elt F)),
    binary main_v0 main_v30 main_v32 (addf : (⟨S16384x256, .f32⟩ : BufTy).Contents (Elt F) → (⟨S16384x256, .f32⟩ : BufTy).Contents (Elt F) → (⟨S16384x256, .f32⟩ : BufTy).Contents (Elt F)) ]

/-- Window `A1a`: 18 operations, `main_v33` to `main_v47`. -/
abbrev opsA1a : List (HloOp τ sig (Elt F)) :=
  [ unary main_arg1 main_v33 ((extractStridedSlice S1x1024x256 ![1, 0, 0] · slices_S4x1024x256_S1x1024x256_1_0_0) : (⟨S4x1024x256, .f32⟩ : BufTy).Contents (Elt F) → (⟨S1x1024x256, .f32⟩ : BufTy).Contents (Elt F)),
    reshape main_v33 main_v34 (rfl : (.f32 : EltTy) = .f32) shapeCasts_S1x1024x256_S1024x256,
    binary main_v31 main_v31 main_v35 (mulf : (⟨S16384x256, .f32⟩ : BufTy).Contents (Elt F) → (⟨S16384x256, .f32⟩ : BufTy).Contents (Elt F) → (⟨S16384x256, .f32⟩ : BufTy).Contents (Elt F)),
    nullary main_cst_8 (constant S_ .f32 0x00000000#32),
    binary main_v35 main_cst_8 main_v36 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v36 main_v37 (broadcastInDim S16384x1 ![0] bcast_S16384_S16384x1_0 : (⟨S16384, .f32⟩ : BufTy).Contents (Elt F) → (⟨S16384x1, .f32⟩ : BufTy).Contents (Elt F)),
    binary main_v34 main_v34 main_v38 (mulf : (⟨S1024x256, .f32⟩ : BufTy).Contents (Elt F) → (⟨S1024x256, .f32⟩ : BufTy).Contents (Elt F) → (⟨S1024x256, .f32⟩ : BufTy).Contents (Elt F)),
    nullary main_cst_9 (constant S_ .f32 0x00000000#32),
    binary main_v38 main_cst_9 main_v39 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v39 main_v40 (broadcastInDim S1x1024 ![1] bcast_S1024_S1x1024_1 : (⟨S1024, .f32⟩ : BufTy).Contents (Elt F) → (⟨S1x1024, .f32⟩ : BufTy).Contents (Elt F)),
    unary main_v37 main_v41 (broadcastInDim S16384x1024 ![0, 1] bcast_S16384x1_S16384x1024_0_1 : (⟨S16384x1, .f32⟩ : BufTy).Contents (Elt F) → (⟨S16384x1024, .f32⟩ : BufTy).Contents (Elt F)),
    unary main_v40 main_v42 (broadcastInDim S16384x1024 ![0, 1] bcast_S1x1024_S16384x1024_0_1 : (⟨S1x1024, .f32⟩ : BufTy).Contents (Elt F) → (⟨S16384x1024, .f32⟩ : BufTy).Contents (Elt F)),
    binary main_v41 main_v42 main_v43 (addf : (⟨S16384x1024, .f32⟩ : BufTy).Contents (Elt F) → (⟨S16384x1024, .f32⟩ : BufTy).Contents (Elt F) → (⟨S16384x1024, .f32⟩ : BufTy).Contents (Elt F)),
    unary main_v34 main_v44 ((transpose S256x1024 [1, 0] · transposes_S1024x256_S256x1024_1_0) : (⟨S1024x256, .f32⟩ : BufTy).Contents (Elt F) → (⟨S256x1024, .f32⟩ : BufTy).Contents (Elt F)),
    binary main_v31 main_v44 main_v45 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_10 (constant S_ .f32 0x40000000#32),
    unary main_cst_10 main_v46 (broadcastInDim S16384x1024 ![] bcast_S_S16384x1024 : (⟨S_, .f32⟩ : BufTy).Contents (Elt F) → (⟨S16384x1024, .f32⟩ : BufTy).Contents (Elt F)),
    binary main_v46 main_v45 main_v47 (mulf : (⟨S16384x1024, .f32⟩ : BufTy).Contents (Elt F) → (⟨S16384x1024, .f32⟩ : BufTy).Contents (Elt F) → (⟨S16384x1024, .f32⟩ : BufTy).Contents (Elt F)) ]

/-- Window `A1b`: 6 operations, `main_v48` to `main_v49`. -/
abbrev opsA1b : List (HloOp τ sig (Elt F)) :=
  [ binary main_v43 main_v47 main_v48 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call2_v0) (iotaInDim S16384x1024 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16384x1024, .f32⟩) main_v48) (TRef.of (T := ⟨S16384x1024, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmin_f32_i32 x y u v reducesTo_S16384x1024_S16384_d1 h_S_ j).1),
    TRef.quaternary (TRef.of (T := ⟨S16384x1024, .f32⟩) main_v48) (TRef.of (T := ⟨S16384x1024, .i32⟩) main_call2_v0) (TRef.of (T := ⟨S_, .f32⟩) main_call2_cst) (TRef.of (T := ⟨S_, .i32⟩) main_call2_c) (TRef.of (T := ⟨S16384, .i32⟩) main_v49) (fun x y u v j => (Host.argReduce reducer_argmin_f32_i32 x y u v reducesTo_S16384x1024_S16384_d1 h_S_ j).2) ]

/-- Window `B1`: 23 operations, `main_call3_c` to `main_v50`. -/
abbrev opsB1 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16384, .i32⟩) main_call3_v0) (broadcastInDim S16384 ![] bcast_S_S16384),
    TRef.binary (TRef.of (T := ⟨S16384, .i32⟩) main_v49) (TRef.of (T := ⟨S16384, .i32⟩) main_call3_v0) (TRef.of (T := ⟨S16384, .i1⟩) main_call3_v1) (cmpi .slt),
    TRef.nullary (TRef.of (T := ⟨S_, .i32⟩) main_call3_c_0) (constantI S_ 32 1024#32),
    TRef.unary (TRef.of (T := ⟨S_, .i32⟩) main_call3_c_0) (TRef.of (T := ⟨S16384, .i32⟩) main_call3_v2) (broadcastInDim S16384 ![] bcast_S_S16384),
    TRef.binary (TRef.of (T := ⟨S16384, .i32⟩) main_v49) (TRef.of (T := ⟨S16384, .i32⟩) main_call3_v2) (TRef.of (T := ⟨S16384, .i32⟩) main_call3_v3) addi,
    TRef.ternary (TRef.of (T := ⟨S16384, .i1⟩) main_call3_v1) (TRef.of (T := ⟨S16384, .i32⟩) main_call3_v3) (TRef.of (T := ⟨S16384, .i32⟩) main_v49) (TRef.of (T := ⟨S16384, .i32⟩) main_call3_v4) select,
    TRef.unary (TRef.of (T := ⟨S16384, .i32⟩) main_call3_v4) (TRef.of (T := ⟨S16384x1, .i32⟩) main_call3_v5) (broadcastInDim S16384x1 ![0] bcast_S16384_S16384x1_0),
    TRef.nullary (TRef.of (T := ⟨S1, .i32⟩) main_call3_c_1) (constantI S1 32 1023#32),
    TRef.nullary (TRef.of (T := ⟨S_, .i32⟩) main_call3_c_2) (constantI S_ 32 0#32),
    TRef.unary (TRef.of (T := ⟨S_, .i32⟩) main_call3_c_2) (TRef.of (T := ⟨S16384x1, .i32⟩) main_call3_v6) (broadcastInDim S16384x1 ![] bcast_S_S16384x1),
    TRef.binary (TRef.of (T := ⟨S16384x1, .i32⟩) main_call3_v5) (TRef.of (T := ⟨S16384x1, .i32⟩) main_call3_v6) (TRef.of (T := ⟨S16384x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S16384x1, .i32⟩) main_call3_v9) (broadcastInDim S16384x1 ![0, 1] bcast_S1x1_S16384x1_0_1),
    TRef.binary (TRef.of (T := ⟨S16384x1, .i32⟩) main_call3_v5) (TRef.of (T := ⟨S16384x1, .i32⟩) main_call3_v9) (TRef.of (T := ⟨S16384x1, .i1⟩) main_call3_v10) (cmpi .sle),
    TRef.binary (TRef.of (T := ⟨S16384x1, .i1⟩) main_call3_v7) (TRef.of (T := ⟨S16384x1, .i1⟩) main_call3_v10) (TRef.of (T := ⟨S16384x1, .i1⟩) main_call3_v11) andi,
    TRef.nullary (TRef.of (T := ⟨S_, .i1⟩) main_call3_c_3) (constantI S_ 1 1#1),
    TRef.binary (TRef.of (T := ⟨S16384x1, .i1⟩) main_call3_v11) (TRef.of (T := ⟨S_, .i1⟩) main_call3_c_3) (TRef.of (T := ⟨S16384, .i1⟩) main_call3_v12) (fun x v => Host.reduce IntOp.andi x v reducesTo_S16384x1_S16384_d1 h_S_),
    TRef.binary (TRef.of (T := ⟨S1024x256, .f32⟩) main_v34) (TRef.of (T := ⟨S16384x1, .i32⟩) main_call3_v5) (TRef.of (T := ⟨S16384x256, .f32⟩) main_call3_v13) (fun x i => Host.gather gather_S1024x256_S16384x1_S16384x256_1_0_n_n_0_1_1256 x i),
    TRef.unary (TRef.of (T := ⟨S16384, .i1⟩) main_call3_v12) (TRef.of (T := ⟨S16384x256, .i1⟩) main_call3_v14) (broadcastInDim S16384x256 ![0] bcast_S16384_S16384x256_0),
    TRef.nullary (TRef.of (T := ⟨S_, .f32⟩) main_call3_cst) (constant S_ .f32 0x7FC00000#32),
    TRef.unary (TRef.of (T := ⟨S_, .f32⟩) main_call3_cst) (TRef.of (T := ⟨S16384x256, .f32⟩) main_call3_v15) (broadcastInDim S16384x256 ![] bcast_S_S16384x256),
    TRef.ternary (TRef.of (T := ⟨S16384x256, .i1⟩) main_call3_v14) (TRef.of (T := ⟨S16384x256, .f32⟩) main_call3_v13) (TRef.of (T := ⟨S16384x256, .f32⟩) main_call3_v15) (TRef.of (T := ⟨S16384x256, .f32⟩) main_v50) select ]

/-- Window `C1`: 19 operations, `main_v51` to `main_v64`. -/
abbrev opsC1 : List (HloOp τ sig (Elt F)) :=
  [ binary main_v50 main_v31 main_v51 (subf : (⟨S16384x256, .f32⟩ : BufTy).Contents (Elt F) → (⟨S16384x256, .f32⟩ : BufTy).Contents (Elt F) → (⟨S16384x256, .f32⟩ : BufTy).Contents (Elt F)),
    binary main_v51 main_v51 main_v52 (mulf : (⟨S16384x256, .f32⟩ : BufTy).Contents (Elt F) → (⟨S16384x256, .f32⟩ : BufTy).Contents (Elt F) → (⟨S16384x256, .f32⟩ : BufTy).Contents (Elt F)),
    nullary main_cst_11 (constant S_ .f32 0x00000000#32),
    binary main_v52 main_cst_11 main_v53 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_12 (constant S_ .f32 0x4A800000#32),
    binary main_v53 main_cst_12 main_v54 (Host.divf : (⟨S_, .f32⟩ : BufTy).Contents (Elt F) → (⟨S_, .f32⟩ : BufTy).Contents (Elt F) → (⟨S_, .f32⟩ : BufTy).Contents (Elt F)),
    binary main_v50 main_v31 main_v55 (subf : (⟨S16384x256, .f32⟩ : BufTy).Contents (Elt F) → (⟨S16384x256, .f32⟩ : BufTy).Contents (Elt F) → (⟨S16384x256, .f32⟩ : BufTy).Contents (Elt F)),
    binary main_v55 main_v55 main_v56 (mulf : (⟨S16384x256, .f32⟩ : BufTy).Contents (Elt F) → (⟨S16384x256, .f32⟩ : BufTy).Contents (Elt F) → (⟨S16384x256, .f32⟩ : BufTy).Contents (Elt F)),
    nullary main_cst_13 (constant S_ .f32 0x00000000#32),
    binary main_v56 main_cst_13 main_v57 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_14 (constant S_ .f32 0x4A800000#32),
    binary main_v57 main_cst_14 main_v58 (Host.divf : (⟨S_, .f32⟩ : BufTy).Contents (Elt F) → (⟨S_, .f32⟩ : BufTy).Contents (Elt F) → (⟨S_, .f32⟩ : BufTy).Contents (Elt F)),
    nullary main_cst_15 (constant S_ .f32 0x3E800000#32),
    binary main_cst_15 main_v58 main_v59 (mulf : (⟨S_, .f32⟩ : BufTy).Contents (Elt F) → (⟨S_, .f32⟩ : BufTy).Contents (Elt F) → (⟨S_, .f32⟩ : BufTy).Contents (Elt F)),
    binary main_v54 main_v59 main_v60 (addf : (⟨S_, .f32⟩ : BufTy).Contents (Elt F) → (⟨S_, .f32⟩ : BufTy).Contents (Elt F) → (⟨S_, .f32⟩ : BufTy).Contents (Elt F)),
    binary main_v50 main_v31 main_v61 (subf : (⟨S16384x256, .f32⟩ : BufTy).Contents (Elt F) → (⟨S16384x256, .f32⟩ : BufTy).Contents (Elt F) → (⟨S16384x256, .f32⟩ : BufTy).Contents (Elt F)),
    binary main_v31 main_v61 main_v62 (addf : (⟨S16384x256, .f32⟩ : BufTy).Contents (Elt F) → (⟨S16384x256, .f32⟩ : BufTy).Contents (Elt F) → (⟨S16384x256, .f32⟩ : BufTy).Contents (Elt F)),
    binary main_v31 main_v62 main_v63 (subf : (⟨S16384x256, .f32⟩ : BufTy).Contents (Elt F) → (⟨S16384x256, .f32⟩ : BufTy).Contents (Elt F) → (⟨S16384x256, .f32⟩ : BufTy).Contents (Elt F)),
    binary main_v32 main_v62 main_v64 (addf : (⟨S16384x256, .f32⟩ : BufTy).Contents (Elt F) → (⟨S16384x256, .f32⟩ : BufTy).Contents (Elt F) → (⟨S16384x256, .f32⟩ : BufTy).Contents (Elt F)) ]

/-- Window `A2`: 24 operations, `main_v65` to `main_v81`. -/
abbrev opsA2 : List (HloOp τ sig (Elt F)) :=
  [ unary main_arg1 main_v65 ((extractStridedSlice S1x1024x256 ![2, 0, 0] · slices_S4x1024x256_S1x1024x256_2_0_0) : (⟨S4x1024x256, .f32⟩ : BufTy).Contents (Elt F) → (⟨S1x1024x256, .f32⟩ : BufTy).Contents (Elt F)),
    reshape main_v65 main_v66 (rfl : (.f32 : EltTy) = .f32) shapeCasts_S1x1024x256_S1024x256,
    binary main_v63 main_v63 main_v67 (mulf : (⟨S16384x256, .f32⟩ : BufTy).Contents (Elt F) → (⟨S16384x256, .f32⟩ : BufTy).Contents (Elt F) → (⟨S16384x256, .f32⟩ : BufTy).Contents (Elt F)),
    nullary main_cst_16 (constant S_ .f32 0x00000000#32),
    binary main_v67 main_cst_16 main_v68 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v68 main_v69 (broadcastInDim S16384x1 ![0] bcast_S16384_S16384x1_0 : (⟨S16384, .f32⟩ : BufTy).Contents (Elt F) → (⟨S16384x1, .f32⟩ : BufTy).Contents (Elt F)),
    binary main_v66 main_v66 main_v70 (mulf : (⟨S1024x256, .f32⟩ : BufTy).Contents (Elt F) → (⟨S1024x256, .f32⟩ : BufTy).Contents (Elt F) → (⟨S1024x256, .f32⟩ : BufTy).Contents (Elt F)),
    nullary main_cst_17 (constant S_ .f32 0x00000000#32),
    binary main_v70 main_cst_17 main_v71 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v71 main_v72 (broadcastInDim S1x1024 ![1] bcast_S1024_S1x1024_1 : (⟨S1024, .f32⟩ : BufTy).Contents (Elt F) → (⟨S1x1024, .f32⟩ : BufTy).Contents (Elt F)),
    unary main_v69 main_v73 (broadcastInDim S16384x1024 ![0, 1] bcast_S16384x1_S16384x1024_0_1 : (⟨S16384x1, .f32⟩ : BufTy).Contents (Elt F) → (⟨S16384x1024, .f32⟩ : BufTy).Contents (Elt F)),
    unary main_v72 main_v74 (broadcastInDim S16384x1024 ![0, 1] bcast_S1x1024_S16384x1024_0_1 : (⟨S1x1024, .f32⟩ : BufTy).Contents (Elt F) → (⟨S16384x1024, .f32⟩ : BufTy).Contents (Elt F)),
    binary main_v73 main_v74 main_v75 (addf : (⟨S16384x1024, .f32⟩ : BufTy).Contents (Elt F) → (⟨S16384x1024, .f32⟩ : BufTy).Contents (Elt F) → (⟨S16384x1024, .f32⟩ : BufTy).Contents (Elt F)),
    unary main_v66 main_v76 ((transpose S256x1024 [1, 0] · transposes_S1024x256_S256x1024_1_0) : (⟨S1024x256, .f32⟩ : BufTy).Contents (Elt F) → (⟨S256x1024, .f32⟩ : BufTy).Contents (Elt F)),
    binary main_v63 main_v76 main_v77 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_18 (constant S_ .f32 0x40000000#32),
    unary main_cst_18 main_v78 (broadcastInDim S16384x1024 ![] bcast_S_S16384x1024 : (⟨S_, .f32⟩ : BufTy).Contents (Elt F) → (⟨S16384x1024, .f32⟩ : BufTy).Contents (Elt F)),
    binary main_v78 main_v77 main_v79 (mulf : (⟨S16384x1024, .f32⟩ : BufTy).Contents (Elt F) → (⟨S16384x1024, .f32⟩ : BufTy).Contents (Elt F) → (⟨S16384x1024, .f32⟩ : BufTy).Contents (Elt F)),
    binary main_v75 main_v79 main_v80 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call4_v0) (iotaInDim S16384x1024 32 1),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S16384x1024, .f32⟩) main_v80) (TRef.of (T := ⟨S16384x1024, .i32⟩) main_call4_v0) (TRef.of (T := ⟨S_, .f32⟩) main_call4_cst) (TRef.of (T := ⟨S_, .i32⟩) main_call4_c) (TRef.of (T := ⟨S16384, .f32⟩) main_call4_v1_0) (fun x y u v j => (Host.argReduce reducer_argmin_f32_i32 x y u v reducesTo_S16384x1024_S16384_d1 h_S_ j).1),
    TRef.quaternary (TRef.of (T := ⟨S16384x1024, .f32⟩) main_v80) (TRef.of (T := ⟨S16384x1024, .i32⟩) main_call4_v0) (TRef.of (T := ⟨S_, .f32⟩) main_call4_cst) (TRef.of (T := ⟨S_, .i32⟩) main_call4_c) (TRef.of (T := ⟨S16384, .i32⟩) main_v81) (fun x y u v j => (Host.argReduce reducer_argmin_f32_i32 x y u v reducesTo_S16384x1024_S16384_d1 h_S_ j).2) ]

/-- Window `B2`: 23 operations, `main_call5_c` to `main_v82`. -/
abbrev opsB2 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S16384, .i32⟩) main_call5_v0) (broadcastInDim S16384 ![] bcast_S_S16384),
    TRef.binary (TRef.of (T := ⟨S16384, .i32⟩) main_v81) (TRef.of (T := ⟨S16384, .i32⟩) main_call5_v0) (TRef.of (T := ⟨S16384, .i1⟩) main_call5_v1) (cmpi .slt),
    TRef.nullary (TRef.of (T := ⟨S_, .i32⟩) main_call5_c_0) (constantI S_ 32 1024#32),
    TRef.unary (TRef.of (T := ⟨S_, .i32⟩) main_call5_c_0) (TRef.of (T := ⟨S16384, .i32⟩) main_call5_v2) (broadcastInDim S16384 ![] bcast_S_S16384),
    TRef.binary (TRef.of (T := ⟨S16384, .i32⟩) main_v81) (TRef.of (T := ⟨S16384, .i32⟩) main_call5_v2) (TRef.of (T := ⟨S16384, .i32⟩) main_call5_v3) addi,
    TRef.ternary (TRef.of (T := ⟨S16384, .i1⟩) main_call5_v1) (TRef.of (T := ⟨S16384, .i32⟩) main_call5_v3) (TRef.of (T := ⟨S16384, .i32⟩) main_v81) (TRef.of (T := ⟨S16384, .i32⟩) main_call5_v4) select,
    TRef.unary (TRef.of (T := ⟨S16384, .i32⟩) main_call5_v4) (TRef.of (T := ⟨S16384x1, .i32⟩) main_call5_v5) (broadcastInDim S16384x1 ![0] bcast_S16384_S16384x1_0),
    TRef.nullary (TRef.of (T := ⟨S1, .i32⟩) main_call5_c_1) (constantI S1 32 1023#32),
    TRef.nullary (TRef.of (T := ⟨S_, .i32⟩) main_call5_c_2) (constantI S_ 32 0#32),
    TRef.unary (TRef.of (T := ⟨S_, .i32⟩) main_call5_c_2) (TRef.of (T := ⟨S16384x1, .i32⟩) main_call5_v6) (broadcastInDim S16384x1 ![] bcast_S_S16384x1),
    TRef.binary (TRef.of (T := ⟨S16384x1, .i32⟩) main_call5_v5) (TRef.of (T := ⟨S16384x1, .i32⟩) main_call5_v6) (TRef.of (T := ⟨S16384x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S16384x1, .i32⟩) main_call5_v9) (broadcastInDim S16384x1 ![0, 1] bcast_S1x1_S16384x1_0_1),
    TRef.binary (TRef.of (T := ⟨S16384x1, .i32⟩) main_call5_v5) (TRef.of (T := ⟨S16384x1, .i32⟩) main_call5_v9) (TRef.of (T := ⟨S16384x1, .i1⟩) main_call5_v10) (cmpi .sle),
    TRef.binary (TRef.of (T := ⟨S16384x1, .i1⟩) main_call5_v7) (TRef.of (T := ⟨S16384x1, .i1⟩) main_call5_v10) (TRef.of (T := ⟨S16384x1, .i1⟩) main_call5_v11) andi,
    TRef.nullary (TRef.of (T := ⟨S_, .i1⟩) main_call5_c_3) (constantI S_ 1 1#1),
    TRef.binary (TRef.of (T := ⟨S16384x1, .i1⟩) main_call5_v11) (TRef.of (T := ⟨S_, .i1⟩) main_call5_c_3) (TRef.of (T := ⟨S16384, .i1⟩) main_call5_v12) (fun x v => Host.reduce IntOp.andi x v reducesTo_S16384x1_S16384_d1 h_S_),
    TRef.binary (TRef.of (T := ⟨S1024x256, .f32⟩) main_v66) (TRef.of (T := ⟨S16384x1, .i32⟩) main_call5_v5) (TRef.of (T := ⟨S16384x256, .f32⟩) main_call5_v13) (fun x i => Host.gather gather_S1024x256_S16384x1_S16384x256_1_0_n_n_0_1_1256 x i),
    TRef.unary (TRef.of (T := ⟨S16384, .i1⟩) main_call5_v12) (TRef.of (T := ⟨S16384x256, .i1⟩) main_call5_v14) (broadcastInDim S16384x256 ![0] bcast_S16384_S16384x256_0),
    TRef.nullary (TRef.of (T := ⟨S_, .f32⟩) main_call5_cst) (constant S_ .f32 0x7FC00000#32),
    TRef.unary (TRef.of (T := ⟨S_, .f32⟩) main_call5_cst) (TRef.of (T := ⟨S16384x256, .f32⟩) main_call5_v15) (broadcastInDim S16384x256 ![] bcast_S_S16384x256),
    TRef.ternary (TRef.of (T := ⟨S16384x256, .i1⟩) main_call5_v14) (TRef.of (T := ⟨S16384x256, .f32⟩) main_call5_v13) (TRef.of (T := ⟨S16384x256, .f32⟩) main_call5_v15) (TRef.of (T := ⟨S16384x256, .f32⟩) main_v82) select ]

/-- Window `C2a`: 17 operations, `main_v83` to `main_v94`. -/
abbrev opsC2a : List (HloOp τ sig (Elt F)) :=
  [ binary main_v82 main_v63 main_v83 (subf : (⟨S16384x256, .f32⟩ : BufTy).Contents (Elt F) → (⟨S16384x256, .f32⟩ : BufTy).Contents (Elt F) → (⟨S16384x256, .f32⟩ : BufTy).Contents (Elt F)),
    binary main_v83 main_v83 main_v84 (mulf : (⟨S16384x256, .f32⟩ : BufTy).Contents (Elt F) → (⟨S16384x256, .f32⟩ : BufTy).Contents (Elt F) → (⟨S16384x256, .f32⟩ : BufTy).Contents (Elt F)),
    nullary main_cst_19 (constant S_ .f32 0x00000000#32),
    binary main_v84 main_cst_19 main_v85 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_20 (constant S_ .f32 0x4A800000#32),
    binary main_v85 main_cst_20 main_v86 (Host.divf : (⟨S_, .f32⟩ : BufTy).Contents (Elt F) → (⟨S_, .f32⟩ : BufTy).Contents (Elt F) → (⟨S_, .f32⟩ : BufTy).Contents (Elt F)),
    binary main_v82 main_v63 main_v87 (subf : (⟨S16384x256, .f32⟩ : BufTy).Contents (Elt F) → (⟨S16384x256, .f32⟩ : BufTy).Contents (Elt F) → (⟨S16384x256, .f32⟩ : BufTy).Contents (Elt F)),
    binary main_v87 main_v87 main_v88 (mulf : (⟨S16384x256, .f32⟩ : BufTy).Contents (Elt F) → (⟨S16384x256, .f32⟩ : BufTy).Contents (Elt F) → (⟨S16384x256, .f32⟩ : BufTy).Contents (Elt F)),
    nullary main_cst_21 (constant S_ .f32 0x00000000#32),
    binary main_v88 main_cst_21 main_v89 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_22 (constant S_ .f32 0x4A800000#32),
    binary main_v89 main_cst_22 main_v90 (Host.divf : (⟨S_, .f32⟩ : BufTy).Contents (Elt F) → (⟨S_, .f32⟩ : BufTy).Contents (Elt F) → (⟨S_, .f32⟩ : BufTy).Contents (Elt F)),
    nullary main_cst_23 (constant S_ .f32 0x3E800000#32),
    binary main_cst_23 main_v90 main_v91 (mulf : (⟨S_, .f32⟩ : BufTy).Contents (Elt F) → (⟨S_, .f32⟩ : BufTy).Contents (Elt F) → (⟨S_, .f32⟩ : BufTy).Contents (Elt F)),
    binary main_v86 main_v91 main_v92 (addf : (⟨S_, .f32⟩ : BufTy).Contents (Elt F) → (⟨S_, .f32⟩ : BufTy).Contents (Elt F) → (⟨S_, .f32⟩ : BufTy).Contents (Elt F)),
    binary main_v82 main_v63 main_v93 (subf : (⟨S16384x256, .f32⟩ : BufTy).Contents (Elt F) → (⟨S16384x256, .f32⟩ : BufTy).Contents (Elt F) → (⟨S16384x256, .f32⟩ : BufTy).Contents (Elt F)),
    binary main_v63 main_v93 main_v94 (addf : (⟨S16384x256, .f32⟩ : BufTy).Contents (Elt F) → (⟨S16384x256, .f32⟩ : BufTy).Contents (Elt F) → (⟨S16384x256, .f32⟩ : BufTy).Contents (Elt F)) ]

/-- Window `C2b`: 2 operations, `main_v95` to `main_v96`. -/
abbrev opsC2b : List (HloOp τ sig (Elt F)) :=
  [ binary main_v63 main_v94 main_v95 (subf : (⟨S16384x256, .f32⟩ : BufTy).Contents (Elt F) → (⟨S16384x256, .f32⟩ : BufTy).Contents (Elt F) → (⟨S16384x256, .f32⟩ : BufTy).Contents (Elt F)),
    binary main_v64 main_v94 main_v96 (addf : (⟨S16384x256, .f32⟩ : BufTy).Contents (Elt F) → (⟨S16384x256, .f32⟩ : BufTy).Contents (Elt F) → (⟨S16384x256, .f32⟩ : BufTy).Contents (Elt F)) ]

/-- Window `A3`: 24 operations, `main_v97` to `main_v113`. -/
abbrev opsA3 : List (HloOp τ sig (Elt F)) :=
  [ unary main_arg1 main_v97 ((extractStridedSlice S1x1024x256 ![3, 0, 0] · slices_S4x1024x256_S1x1024x256_3_0_0) : (⟨S4x1024x256, .f32⟩ : BufTy).Contents (Elt F) → (⟨S1x1024x256, .f32⟩ : BufTy).Contents (Elt F)),
    reshape main_v97 main_v98 (rfl : (.f32 : EltTy) = .f32) shapeCasts_S1x1024x256_S1024x256,
    binary main_v95 main_v95 main_v99 (mulf : (⟨S16384x256, .f32⟩ : BufTy).Contents (Elt F) → (⟨S16384x256, .f32⟩ : BufTy).Contents (Elt F) → (⟨S16384x256, .f32⟩ : BufTy).Contents (Elt F)),
    nullary main_cst_24 (constant S_ .f32 0x00000000#32),
    binary main_v99 main_cst_24 main_v100 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v100 main_v101 (broadcastInDim S16384x1 ![0] bcast_S16384_S16384x1_0 : (⟨S16384, .f32⟩ : BufTy).Contents (Elt F) → (⟨S16384x1, .f32⟩ : BufTy).Contents (Elt F)),
    binary main_v98 main_v98 main_v102 (mulf : (⟨S1024x256, .f32⟩ : BufTy).Contents (Elt F) → (⟨S1024x256, .f32⟩ : BufTy).Contents (Elt F) → (⟨S1024x256, .f32⟩ : BufTy).Contents (Elt F)),
    nullary main_cst_25 (constant S_ .f32 0x00000000#32),
    binary main_v102 main_cst_25 main_v103 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v103 main_v104 (broadcastInDim S1x1024 ![1] bcast_S1024_S1x1024_1 : (⟨S1024, .f32⟩ : BufTy).Contents (Elt F) → (⟨S1x1024, .f32⟩ : BufTy).Contents (Elt F)),
    unary main_v101 main_v105 (broadcastInDim S16384x1024 ![0, 1] bcast_S16384x1_S16384x1024_0_1 : (⟨S16384x1, .f32⟩ : BufTy).Contents (Elt F) → (⟨S16384x1024, .f32⟩ : BufTy).Contents (Elt F)),
    unary main_v104 main_v106 (broadcastInDim S16384x1024 ![0, 1] bcast_S1x1024_S16384x1024_0_1 : (⟨S1x1024, .f32⟩ : BufTy).Contents (Elt F) → (⟨S16384x1024, .f32⟩ : BufTy).Contents (Elt F)),
    binary main_v105 main_v106 main_v107 (addf : (⟨S16384x1024, .f32⟩ : BufTy).Contents (Elt F) → (⟨S16384x1024, .f32⟩ : BufTy).Contents (Elt F) → (⟨S16384x1024, .f32⟩ : BufTy).Contents (Elt F)),
    unary main_v98 main_v108 ((transpose S256x1024 [1, 0] · transposes_S1024x256_S256x1024_1_0) : (⟨S1024x256, .f32⟩ : BufTy).Contents (Elt F) → (⟨S256x1024, .f32⟩ : BufTy).Contents (Elt F)),
    binary main_v95 main_v108 main_v109 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_26 (constant S_ .f32 0x40000000#32),
    unary main_cst_26 main_v110 (broadcastInDim S16384x1024 ![] bcast_S_S16384x1024 : (⟨S_, .f32⟩ : BufTy).Contents (Elt F) → (⟨S16384x1024, .f32⟩ : BufTy).Contents (Elt F)),
    binary main_v110 main_v109 main_v111 (mulf : (⟨S16384x1024, .f32⟩ : BufTy).Contents (Elt F) → (⟨S16384x1024, .f32⟩ : BufTy).Contents (Elt F) → (⟨S16384x1024, .f32⟩ : BufTy).Contents (Elt F)),
    binary main_v107 main_v111 main_v112 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call6_v0) (iotaInDim S16384x1024 32 1),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S16384x1024, .f32⟩) main_v112) (TRef.of (T := ⟨S16384x1024, .i32⟩) main_call6_v0) (TRef.of (T := ⟨S_, .f32⟩) main_call6_cst) (TRef.of (T := ⟨S_, .i32⟩) main_call6_c) (TRef.of (T := ⟨S16384, .f32⟩) main_call6_v1_0) (fun x y u v j => (Host.argReduce reducer_argmin_f32_i32 x y u v reducesTo_S16384x1024_S16384_d1 h_S_ j).1),
    TRef.quaternary (TRef.of (T := ⟨S16384x1024, .f32⟩) main_v112) (TRef.of (T := ⟨S16384x1024, .i32⟩) main_call6_v0) (TRef.of (T := ⟨S_, .f32⟩) main_call6_cst) (TRef.of (T := ⟨S_, .i32⟩) main_call6_c) (TRef.of (T := ⟨S16384, .i32⟩) main_v113) (fun x y u v j => (Host.argReduce reducer_argmin_f32_i32 x y u v reducesTo_S16384x1024_S16384_d1 h_S_ j).2) ]

/-- Window `B3`: 23 operations, `main_call7_c` to `main_v114`. -/
abbrev opsB3 : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S16384, .i32⟩) main_call7_v0) (broadcastInDim S16384 ![] bcast_S_S16384),
    TRef.binary (TRef.of (T := ⟨S16384, .i32⟩) main_v113) (TRef.of (T := ⟨S16384, .i32⟩) main_call7_v0) (TRef.of (T := ⟨S16384, .i1⟩) main_call7_v1) (cmpi .slt),
    TRef.nullary (TRef.of (T := ⟨S_, .i32⟩) main_call7_c_0) (constantI S_ 32 1024#32),
    TRef.unary (TRef.of (T := ⟨S_, .i32⟩) main_call7_c_0) (TRef.of (T := ⟨S16384, .i32⟩) main_call7_v2) (broadcastInDim S16384 ![] bcast_S_S16384),
    TRef.binary (TRef.of (T := ⟨S16384, .i32⟩) main_v113) (TRef.of (T := ⟨S16384, .i32⟩) main_call7_v2) (TRef.of (T := ⟨S16384, .i32⟩) main_call7_v3) addi,
    TRef.ternary (TRef.of (T := ⟨S16384, .i1⟩) main_call7_v1) (TRef.of (T := ⟨S16384, .i32⟩) main_call7_v3) (TRef.of (T := ⟨S16384, .i32⟩) main_v113) (TRef.of (T := ⟨S16384, .i32⟩) main_call7_v4) select,
    TRef.unary (TRef.of (T := ⟨S16384, .i32⟩) main_call7_v4) (TRef.of (T := ⟨S16384x1, .i32⟩) main_call7_v5) (broadcastInDim S16384x1 ![0] bcast_S16384_S16384x1_0),
    TRef.nullary (TRef.of (T := ⟨S1, .i32⟩) main_call7_c_1) (constantI S1 32 1023#32),
    TRef.nullary (TRef.of (T := ⟨S_, .i32⟩) main_call7_c_2) (constantI S_ 32 0#32),
    TRef.unary (TRef.of (T := ⟨S_, .i32⟩) main_call7_c_2) (TRef.of (T := ⟨S16384x1, .i32⟩) main_call7_v6) (broadcastInDim S16384x1 ![] bcast_S_S16384x1),
    TRef.binary (TRef.of (T := ⟨S16384x1, .i32⟩) main_call7_v5) (TRef.of (T := ⟨S16384x1, .i32⟩) main_call7_v6) (TRef.of (T := ⟨S16384x1, .i1⟩) main_call7_v7) (cmpi .sge),
    TRef.unary (TRef.of (T := ⟨S1, .i32⟩) main_call7_c_1) (TRef.of (T := ⟨S1x1, .i32⟩) main_call7_v8) (broadcastInDim S1x1 ![1] bcast_S1_S1x1_1),
    TRef.unary (TRef.of (T := ⟨S1x1, .i32⟩) main_call7_v8) (TRef.of (T := ⟨S16384x1, .i32⟩) main_call7_v9) (broadcastInDim S16384x1 ![0, 1] bcast_S1x1_S16384x1_0_1),
    TRef.binary (TRef.of (T := ⟨S16384x1, .i32⟩) main_call7_v5) (TRef.of (T := ⟨S16384x1, .i32⟩) main_call7_v9) (TRef.of (T := ⟨S16384x1, .i1⟩) main_call7_v10) (cmpi .sle),
    TRef.binary (TRef.of (T := ⟨S16384x1, .i1⟩) main_call7_v7) (TRef.of (T := ⟨S16384x1, .i1⟩) main_call7_v10) (TRef.of (T := ⟨S16384x1, .i1⟩) main_call7_v11) andi,
    TRef.nullary (TRef.of (T := ⟨S_, .i1⟩) main_call7_c_3) (constantI S_ 1 1#1),
    TRef.binary (TRef.of (T := ⟨S16384x1, .i1⟩) main_call7_v11) (TRef.of (T := ⟨S_, .i1⟩) main_call7_c_3) (TRef.of (T := ⟨S16384, .i1⟩) main_call7_v12) (fun x v => Host.reduce IntOp.andi x v reducesTo_S16384x1_S16384_d1 h_S_),
    TRef.binary (TRef.of (T := ⟨S1024x256, .f32⟩) main_v98) (TRef.of (T := ⟨S16384x1, .i32⟩) main_call7_v5) (TRef.of (T := ⟨S16384x256, .f32⟩) main_call7_v13) (fun x i => Host.gather gather_S1024x256_S16384x1_S16384x256_1_0_n_n_0_1_1256 x i),
    TRef.unary (TRef.of (T := ⟨S16384, .i1⟩) main_call7_v12) (TRef.of (T := ⟨S16384x256, .i1⟩) main_call7_v14) (broadcastInDim S16384x256 ![0] bcast_S16384_S16384x256_0),
    TRef.nullary (TRef.of (T := ⟨S_, .f32⟩) main_call7_cst) (constant S_ .f32 0x7FC00000#32),
    TRef.unary (TRef.of (T := ⟨S_, .f32⟩) main_call7_cst) (TRef.of (T := ⟨S16384x256, .f32⟩) main_call7_v15) (broadcastInDim S16384x256 ![] bcast_S_S16384x256),
    TRef.ternary (TRef.of (T := ⟨S16384x256, .i1⟩) main_call7_v14) (TRef.of (T := ⟨S16384x256, .f32⟩) main_call7_v13) (TRef.of (T := ⟨S16384x256, .f32⟩) main_call7_v15) (TRef.of (T := ⟨S16384x256, .f32⟩) main_v114) select ]

/-- Window `C3`: 19 operations, `main_v115` to `main_v128`. -/
abbrev opsC3 : List (HloOp τ sig (Elt F)) :=
  [ binary main_v114 main_v95 main_v115 (subf : (⟨S16384x256, .f32⟩ : BufTy).Contents (Elt F) → (⟨S16384x256, .f32⟩ : BufTy).Contents (Elt F) → (⟨S16384x256, .f32⟩ : BufTy).Contents (Elt F)),
    binary main_v115 main_v115 main_v116 (mulf : (⟨S16384x256, .f32⟩ : BufTy).Contents (Elt F) → (⟨S16384x256, .f32⟩ : BufTy).Contents (Elt F) → (⟨S16384x256, .f32⟩ : BufTy).Contents (Elt F)),
    nullary main_cst_27 (constant S_ .f32 0x00000000#32),
    binary main_v116 main_cst_27 main_v117 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_28 (constant S_ .f32 0x4A800000#32),
    binary main_v117 main_cst_28 main_v118 (Host.divf : (⟨S_, .f32⟩ : BufTy).Contents (Elt F) → (⟨S_, .f32⟩ : BufTy).Contents (Elt F) → (⟨S_, .f32⟩ : BufTy).Contents (Elt F)),
    binary main_v114 main_v95 main_v119 (subf : (⟨S16384x256, .f32⟩ : BufTy).Contents (Elt F) → (⟨S16384x256, .f32⟩ : BufTy).Contents (Elt F) → (⟨S16384x256, .f32⟩ : BufTy).Contents (Elt F)),
    binary main_v119 main_v119 main_v120 (mulf : (⟨S16384x256, .f32⟩ : BufTy).Contents (Elt F) → (⟨S16384x256, .f32⟩ : BufTy).Contents (Elt F) → (⟨S16384x256, .f32⟩ : BufTy).Contents (Elt F)),
    nullary main_cst_29 (constant S_ .f32 0x00000000#32),
    binary main_v120 main_cst_29 main_v121 ((fun x v => Host.reduceAdd x v reducesTo_S16384x256_S_d0_1 h_S_) : (⟨S16384x256, .f32⟩ : BufTy).Contents (Elt F) → (⟨S_, .f32⟩ : BufTy).Contents (Elt F) → (⟨S_, .f32⟩ : BufTy).Contents (Elt F)),
    nullary main_cst_30 (constant S_ .f32 0x4A800000#32),
    binary main_v121 main_cst_30 main_v122 (Host.divf : (⟨S_, .f32⟩ : BufTy).Contents (Elt F) → (⟨S_, .f32⟩ : BufTy).Contents (Elt F) → (⟨S_, .f32⟩ : BufTy).Contents (Elt F)),
    nullary main_cst_31 (constant S_ .f32 0x3E800000#32),
    binary main_cst_31 main_v122 main_v123 (mulf : (⟨S_, .f32⟩ : BufTy).Contents (Elt F) → (⟨S_, .f32⟩ : BufTy).Contents (Elt F) → (⟨S_, .f32⟩ : BufTy).Contents (Elt F)),
    binary main_v118 main_v123 main_v124 (addf : (⟨S_, .f32⟩ : BufTy).Contents (Elt F) → (⟨S_, .f32⟩ : BufTy).Contents (Elt F) → (⟨S_, .f32⟩ : BufTy).Contents (Elt F)),
    binary main_v114 main_v95 main_v125 (subf : (⟨S16384x256, .f32⟩ : BufTy).Contents (Elt F) → (⟨S16384x256, .f32⟩ : BufTy).Contents (Elt F) → (⟨S16384x256, .f32⟩ : BufTy).Contents (Elt F)),
    binary main_v95 main_v125 main_v126 (addf : (⟨S16384x256, .f32⟩ : BufTy).Contents (Elt F) → (⟨S16384x256, .f32⟩ : BufTy).Contents (Elt F) → (⟨S16384x256, .f32⟩ : BufTy).Contents (Elt F)),
    binary main_v95 main_v126 main_v127 (subf : (⟨S16384x256, .f32⟩ : BufTy).Contents (Elt F) → (⟨S16384x256, .f32⟩ : BufTy).Contents (Elt F) → (⟨S16384x256, .f32⟩ : BufTy).Contents (Elt F)),
    binary main_v96 main_v126 main_v128 (addf : (⟨S16384x256, .f32⟩ : BufTy).Contents (Elt F) → (⟨S16384x256, .f32⟩ : BufTy).Contents (Elt F) → (⟨S16384x256, .f32⟩ : BufTy).Contents (Elt F)) ]

/-- Window `Tail`: 14 operations, `main_v129` to `main_v140`. -/
abbrev opsTail : List (HloOp τ sig (Elt F)) :=
  [ unary main_v28 main_v129 (broadcastInDim S1 ![] bcast_S_S1 : (⟨S_, .f32⟩ : BufTy).Contents (Elt F) → (⟨S1, .f32⟩ : BufTy).Contents (Elt F)),
    unary main_v60 main_v130 (broadcastInDim S1 ![] bcast_S_S1 : (⟨S_, .f32⟩ : BufTy).Contents (Elt F) → (⟨S1, .f32⟩ : BufTy).Contents (Elt F)),
    unary main_v92 main_v131 (broadcastInDim S1 ![] bcast_S_S1 : (⟨S_, .f32⟩ : BufTy).Contents (Elt F) → (⟨S1, .f32⟩ : BufTy).Contents (Elt F)),
    unary main_v124 main_v132 (broadcastInDim S1 ![] bcast_S_S1 : (⟨S_, .f32⟩ : BufTy).Contents (Elt F) → (⟨S1, .f32⟩ : BufTy).Contents (Elt F)),
    nary ![main_v129, main_v130, main_v131, main_v132] main_v133 (fun u => stackLosses (F := F) (u 0) (u 1) (u 2) (u 3)),
    nullary main_cst_32 (constant S_ .f32 0x00000000#32),
    binary main_v133 main_cst_32 main_v134 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_33 (constant S_ .f32 0x40800000#32),
    binary main_v134 main_cst_33 main_v135 (Host.divf : (⟨S_, .f32⟩ : BufTy).Contents (Elt F) → (⟨S_, .f32⟩ : BufTy).Contents (Elt F) → (⟨S_, .f32⟩ : BufTy).Contents (Elt F)),
    unary main_v17 main_v136 (broadcastInDim S16384x1 ![0] bcast_S16384_S16384x1_0 : (⟨S16384, .i32⟩ : BufTy).Contents (Elt F) → (⟨S16384x1, .i32⟩ : BufTy).Contents (Elt F)),
    unary main_v49 main_v137 (broadcastInDim S16384x1 ![0] bcast_S16384_S16384x1_0 : (⟨S16384, .i32⟩ : BufTy).Contents (Elt F) → (⟨S16384x1, .i32⟩ : BufTy).Contents (Elt F)),
    unary main_v81 main_v138 (broadcastInDim S16384x1 ![0] bcast_S16384_S16384x1_0 : (⟨S16384, .i32⟩ : BufTy).Contents (Elt F) → (⟨S16384x1, .i32⟩ : BufTy).Contents (Elt F)),
    unary main_v113 main_v139 (broadcastInDim S16384x1 ![0] bcast_S16384_S16384x1_0 : (⟨S16384, .i32⟩ : BufTy).Contents (Elt F) → (⟨S16384x1, .i32⟩ : BufTy).Contents (Elt F)),
    nary ![main_v136, main_v137, main_v138, main_v139] main_v140 (fun u => stackIndices (F := F) (u 0) (u 1) (u 2) (u 3)) ]

set_option maxRecDepth 8192 in
set_option maxHeartbeats 4000000 in
theorem part0_eq (c : Dev nD) : main_part0 (F := F) c = seq (opsPre ++ (opsA0 ++ (opsB0 ++ (opsC0 ++ (opsA1a))))) := rfl

set_option maxRecDepth 8192 in
set_option maxHeartbeats 4000000 in
theorem part1_eq (c : Dev nD) : main_part1 (F := F) c = seq (opsA1b ++ (opsB1 ++ (opsC1 ++ (opsA2 ++ (opsB2 ++ (opsC2a)))))) := rfl

set_option maxRecDepth 8192 in
set_option maxHeartbeats 4000000 in
theorem part2_eq (c : Dev nD) : main_part2 (F := F) c = seq (opsC2b ++ (opsA3 ++ (opsB3 ++ (opsC3 ++ (opsTail))))) := rfl

/-- All the operations, in order. -/
def ops : List (HloOp τ sig (Elt F)) :=
  opsPre ++ (opsA0 ++ (opsB0 ++ (opsC0 ++ (opsA1a ++ (opsA1b ++ (opsB1 ++ (opsC1 ++ (opsA2 ++ (opsB2 ++ (opsC2a ++ (opsC2b ++ (opsA3 ++ (opsB3 ++ (opsC3 ++ (opsTail)))))))))))))))

set_option maxRecDepth 8192 in
theorem main_eq (c : Dev nD) : main (F := F) c = seq ops := by
  rw [show (main (F := F) c) = (main_part0 c >>= fun _ => main_part1 c >>= fun _ => main_part2 c) from rfl,
    part0_eq c, part1_eq c, part2_eq c, ← seq_append, ← seq_append]
  simp only [ops, List.append_assoc]

theorem opsPre_sub : (opsPre : List (HloOp τ sig (Elt F))).Forall fun op => op.bufs ⊆ tcRefs τ sig :=
  ⟨nullary_bufs_sub .., unary_bufs_sub ..⟩
/-- The buffers window `Pre` writes. -/
abbrev dstPre : List (Ref sig .tc) := [main_cst, main_v0]
theorem opsPre_writes : (opsPre : List (HloOp τ sig (Elt F))).Forall fun op => op.writes ⊆ (dstPre.map (Proc.devRef (τ := τ) .tc)).toFinset := by
  simp only [List.Forall]
  refine ⟨?_, ?_⟩ <;>
  · simp only [nullary_writes, unary_writes, Finset.singleton_subset_iff, List.mem_toFinset]
    exact List.mem_map_of_mem (by decide)
theorem opsA0_sub : (opsA0 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub ..⟩
/-- The buffers window `A0` writes. -/
abbrev dstA0 : List (Ref sig .tc) := [main_v1, main_v2, main_v3, main_cst_0, main_v4, main_v5, main_v6, main_cst_1, main_v7, main_v8, main_v9, main_v10, main_v11, main_v12, main_v13, main_cst_2, main_v14, main_v15, main_v16, main_call0_v0, main_call0_cst, main_call0_c, main_call0_v1_0, main_v17]
theorem opsA0_writes : (opsA0 : List (HloOp τ sig (Elt F))).Forall fun op => op.writes ⊆ (dstA0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
  · simp only [binary_writes, nullary_writes, quaternary_writes, reshape_writes, unary_writes, Finset.singleton_subset_iff, List.mem_toFinset]
    exact List.mem_map_of_mem (by decide)
theorem opsB0_sub : (opsB0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- The buffers window `B0` writes. -/
abbrev dstB0 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v18]
theorem opsB0_writes : (opsB0 : List (HloOp τ sig (Elt F))).Forall fun op => op.writes ⊆ (dstB0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
  · simp only [binary_writes, nullary_writes, ternary_writes, unary_writes, Finset.singleton_subset_iff, List.mem_toFinset]
    exact List.mem_map_of_mem (by decide)
theorem opsC0_sub : (opsC0 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub .., binary_bufs_sub ..⟩
/-- The buffers window `C0` writes. -/
abbrev dstC0 : List (Ref sig .tc) := [main_v19, main_v20, main_cst_3, main_v21, main_cst_4, main_v22, main_v23, main_v24, main_cst_5, main_v25, main_cst_6, main_v26, main_cst_7, main_v27, main_v28, main_v29, main_v30, main_v31, main_v32]
theorem opsC0_writes : (opsC0 : List (HloOp τ sig (Elt F))).Forall fun op => op.writes ⊆ (dstC0.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
  · simp only [binary_writes, nullary_writes, Finset.singleton_subset_iff, List.mem_toFinset]
    exact List.mem_map_of_mem (by decide)
theorem opsA1a_sub : (opsA1a : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub ..⟩
/-- The buffers window `A1a` writes. -/
abbrev dstA1a : List (Ref sig .tc) := [main_v33, main_v34, main_v35, main_cst_8, main_v36, main_v37, main_v38, main_cst_9, main_v39, main_v40, main_v41, main_v42, main_v43, main_v44, main_v45, main_cst_10, main_v46, main_v47]
theorem opsA1a_writes : (opsA1a : List (HloOp τ sig (Elt F))).Forall fun op => op.writes ⊆ (dstA1a.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
  · simp only [binary_writes, nullary_writes, reshape_writes, unary_writes, Finset.singleton_subset_iff, List.mem_toFinset]
    exact List.mem_map_of_mem (by decide)
theorem opsA1b_sub : (opsA1b : List (HloOp τ sig (Elt F))).Forall fun op => op.bufs ⊆ tcRefs τ sig :=
  ⟨binary_bufs_sub .., nullary_bufs_sub .., nullary_bufs_sub .., nullary_bufs_sub .., quaternary_bufs_sub .., quaternary_bufs_sub ..⟩
/-- The buffers window `A1b` writes. -/
abbrev dstA1b : List (Ref sig .tc) := [main_v48, main_call2_v0, main_call2_cst, main_call2_c, main_call2_v1_0, main_v49]
theorem opsA1b_writes : (opsA1b : List (HloOp τ sig (Elt F))).Forall fun op => op.writes ⊆ (dstA1b.map (Proc.devRef (τ := τ) .tc)).toFinset := by
  simp only [List.Forall]
  refine ⟨?_, ?_, ?_, ?_, ?_, ?_⟩ <;>
  · simp only [binary_writes, nullary_writes, quaternary_writes, Finset.singleton_subset_iff, List.mem_toFinset]
    exact List.mem_map_of_mem (by decide)
theorem opsB1_sub : (opsB1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- The buffers window `B1` writes. -/
abbrev dstB1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v50]
theorem opsB1_writes : (opsB1 : List (HloOp τ sig (Elt F))).Forall fun op => op.writes ⊆ (dstB1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
  · simp only [binary_writes, nullary_writes, ternary_writes, unary_writes, Finset.singleton_subset_iff, List.mem_toFinset]
    exact List.mem_map_of_mem (by decide)
theorem opsC1_sub : (opsC1 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub .., binary_bufs_sub ..⟩
/-- The buffers window `C1` writes. -/
abbrev dstC1 : List (Ref sig .tc) := [main_v51, main_v52, main_cst_11, main_v53, main_cst_12, main_v54, main_v55, main_v56, main_cst_13, main_v57, main_cst_14, main_v58, main_cst_15, main_v59, main_v60, main_v61, main_v62, main_v63, main_v64]
theorem opsC1_writes : (opsC1 : List (HloOp τ sig (Elt F))).Forall fun op => op.writes ⊆ (dstC1.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
  · simp only [binary_writes, nullary_writes, Finset.singleton_subset_iff, List.mem_toFinset]
    exact List.mem_map_of_mem (by decide)
theorem opsA2_sub : (opsA2 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub ..⟩
/-- The buffers window `A2` writes. -/
abbrev dstA2 : List (Ref sig .tc) := [main_v65, main_v66, main_v67, main_cst_16, main_v68, main_v69, main_v70, main_cst_17, main_v71, main_v72, main_v73, main_v74, main_v75, main_v76, main_v77, main_cst_18, main_v78, main_v79, main_v80, main_call4_v0, main_call4_cst, main_call4_c, main_call4_v1_0, main_v81]
theorem opsA2_writes : (opsA2 : List (HloOp τ sig (Elt F))).Forall fun op => op.writes ⊆ (dstA2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
  · simp only [binary_writes, nullary_writes, quaternary_writes, reshape_writes, unary_writes, Finset.singleton_subset_iff, List.mem_toFinset]
    exact List.mem_map_of_mem (by decide)
theorem opsB2_sub : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- The buffers window `B2` writes. -/
abbrev dstB2 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v82]
theorem opsB2_writes : (opsB2 : List (HloOp τ sig (Elt F))).Forall fun op => op.writes ⊆ (dstB2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
  · simp only [binary_writes, nullary_writes, ternary_writes, unary_writes, Finset.singleton_subset_iff, List.mem_toFinset]
    exact List.mem_map_of_mem (by decide)
theorem opsC2a_sub : (opsC2a : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩
/-- The buffers window `C2a` writes. -/
abbrev dstC2a : List (Ref sig .tc) := [main_v83, main_v84, main_cst_19, main_v85, main_cst_20, main_v86, main_v87, main_v88, main_cst_21, main_v89, main_cst_22, main_v90, main_cst_23, main_v91, main_v92, main_v93, main_v94]
theorem opsC2a_writes : (opsC2a : List (HloOp τ sig (Elt F))).Forall fun op => op.writes ⊆ (dstC2a.map (Proc.devRef (τ := τ) .tc)).toFinset := by
  simp only [List.Forall]
  refine ⟨?_, ?_, ?_, ?_, ?_, ?_, ?_, ?_, ?_, ?_, ?_, ?_, ?_, ?_, ?_, ?_, ?_⟩ <;>
  · simp only [binary_writes, nullary_writes, Finset.singleton_subset_iff, List.mem_toFinset]
    exact List.mem_map_of_mem (by decide)
theorem opsC2b_sub : (opsC2b : List (HloOp τ sig (Elt F))).Forall fun op => op.bufs ⊆ tcRefs τ sig :=
  ⟨binary_bufs_sub .., binary_bufs_sub ..⟩
/-- The buffers window `C2b` writes. -/
abbrev dstC2b : List (Ref sig .tc) := [main_v95, main_v96]
theorem opsC2b_writes : (opsC2b : List (HloOp τ sig (Elt F))).Forall fun op => op.writes ⊆ (dstC2b.map (Proc.devRef (τ := τ) .tc)).toFinset := by
  simp only [List.Forall]
  refine ⟨?_, ?_⟩ <;>
  · simp only [binary_writes, Finset.singleton_subset_iff, List.mem_toFinset]
    exact List.mem_map_of_mem (by decide)
theorem opsA3_sub : (opsA3 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub ..⟩
/-- The buffers window `A3` writes. -/
abbrev dstA3 : List (Ref sig .tc) := [main_v97, main_v98, main_v99, main_cst_24, main_v100, main_v101, main_v102, main_cst_25, main_v103, main_v104, main_v105, main_v106, main_v107, main_v108, main_v109, main_cst_26, main_v110, main_v111, main_v112, main_call6_v0, main_call6_cst, main_call6_c, main_call6_v1_0, main_v113]
theorem opsA3_writes : (opsA3 : List (HloOp τ sig (Elt F))).Forall fun op => op.writes ⊆ (dstA3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;>
  · simp only [binary_writes, nullary_writes, quaternary_writes, reshape_writes, unary_writes, Finset.singleton_subset_iff, List.mem_toFinset]
    exact List.mem_map_of_mem (by decide)
theorem opsB3_sub : (opsB3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- The buffers window `B3` writes. -/
abbrev dstB3 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v114]
theorem opsB3_writes : (opsB3 : List (HloOp τ sig (Elt F))).Forall fun op => op.writes ⊆ (dstB3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
  · simp only [binary_writes, nullary_writes, ternary_writes, unary_writes, Finset.singleton_subset_iff, List.mem_toFinset]
    exact List.mem_map_of_mem (by decide)
theorem opsC3_sub : (opsC3 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., binary_bufs_sub .., binary_bufs_sub ..⟩
/-- The buffers window `C3` writes. -/
abbrev dstC3 : List (Ref sig .tc) := [main_v115, main_v116, main_cst_27, main_v117, main_cst_28, main_v118, main_v119, main_v120, main_cst_29, main_v121, main_cst_30, main_v122, main_cst_31, main_v123, main_v124, main_v125, main_v126, main_v127, main_v128]
theorem opsC3_writes : (opsC3 : List (HloOp τ sig (Elt F))).Forall fun op => op.writes ⊆ (dstC3.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
  · simp only [binary_writes, nullary_writes, Finset.singleton_subset_iff, List.mem_toFinset]
    exact List.mem_map_of_mem (by decide)
theorem opsTail_sub : (opsTail : List (HloOp τ sig (Elt F))).Forall fun op => op.bufs ⊆ tcRefs τ sig :=
  ⟨unary_bufs_sub .., unary_bufs_sub .., unary_bufs_sub .., unary_bufs_sub .., nary_bufs_sub .., nullary_bufs_sub .., binary_bufs_sub .., nullary_bufs_sub .., binary_bufs_sub .., unary_bufs_sub .., unary_bufs_sub .., unary_bufs_sub .., unary_bufs_sub .., nary_bufs_sub ..⟩
/-- The buffers window `Tail` writes. -/
abbrev dstTail : List (Ref sig .tc) := [main_v129, main_v130, main_v131, main_v132, main_v133, main_cst_32, main_v134, main_cst_33, main_v135, main_v136, main_v137, main_v138, main_v139, main_v140]
theorem opsTail_writes : (opsTail : List (HloOp τ sig (Elt F))).Forall fun op => op.writes ⊆ (dstTail.map (Proc.devRef (τ := τ) .tc)).toFinset := by
  simp only [List.Forall]
  refine ⟨?_, ?_, ?_, ?_, ?_, ?_, ?_, ?_, ?_, ?_, ?_, ?_, ?_, ?_⟩ <;>
  · simp only [binary_writes, nary_writes, nullary_writes, unary_writes, Finset.singleton_subset_iff, List.mem_toFinset]
    exact List.mem_map_of_mem (by decide)
theorem ops_sub : (ops : List (HloOp τ sig (Elt F))).Forall fun op => op.bufs ⊆ tcRefs τ sig := by
  simp only [ops, List.forall_append]
  exact ⟨opsPre_sub, opsA0_sub, opsB0_sub, opsC0_sub, opsA1a_sub, opsA1b_sub, opsB1_sub, opsC1_sub, opsA2_sub, opsB2_sub, opsC2a_sub, opsC2b_sub, opsA3_sub, opsB3_sub, opsC3_sub, opsTail_sub⟩

theorem ops_fresh : ∀ op ∈ (ops : List (HloOp τ sig (Elt F))), op.fresh = ∅ := by
  refine List.forall_iff_forall_mem.mp ?_
  simp only [ops, List.forall_append]
  exact ⟨⟨rfl, rfl⟩, ⟨rfl, rfl, rfl, rfl, rfl, rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl, rfl⟩, ⟨rfl, rfl, rfl, rfl, rfl, rfl⟩, ⟨rfl, rfl, rfl, rfl, rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl⟩, ⟨rfl, rfl⟩, ⟨rfl, rfl, rfl, rfl, rfl, rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl, rfl, rfl, rfl, rfl, rfl⟩, ⟨rfl, rfl, rfl, rfl, rfl, rfl, rfl, rfl, rfl, rfl, rfl, rfl, rfl, rfl⟩⟩

theorem scopedRefs_eq : (Finset.univ.filter fun b : Ref sig .tc => b.isScoped) = ∅ := by decide
theorem scopedSems_eq : (Finset.univ.filter fun sm : SemLoc sig => sm.isScoped .tc) = ∅ := by decide

/-- Every weakly fair run of the reference ends with each buffer at the fold of its operations over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ fun _ => ops_fresh

end Cert.ReferenceIdeal.Line

end
-- ==== Proof.RefRun.lean ====
/- What the reference's four levels compute, as functions of the residual and the level's code table, and the reference's
   run stated by them: `nxt R E` is the residual a level leaves, `stp R E` what it adds to the sum, `los R E` its loss,
   `refI R E` its column of indices. Each window's lemma reads the window's fold at the buffers the next windows need. -/
module

public import proofs.«01_k».proof.Proof.RefOps

@[expose] public section

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The code table of level 0: the first slab of the codebooks. -/
def tab0 (C : FVec F S4x1024x256 .f32) : FVec F S1024x256 .f32 :=
  shapeCast _ (extractStridedSlice S1x1024x256 ![0, 0, 0] C slices_S4x1024x256_S1x1024x256_0_0_0) shapeCasts_S1x1024x256_S1024x256
/-- The code table of level 1. -/
def tab1 (C : FVec F S4x1024x256 .f32) : FVec F S1024x256 .f32 :=
  shapeCast _ (extractStridedSlice S1x1024x256 ![1, 0, 0] C slices_S4x1024x256_S1x1024x256_1_0_0) shapeCasts_S1x1024x256_S1024x256
/-- The code table of level 2. -/
def tab2 (C : FVec F S4x1024x256 .f32) : FVec F S1024x256 .f32 :=
  shapeCast _ (extractStridedSlice S1x1024x256 ![2, 0, 0] C slices_S4x1024x256_S1x1024x256_2_0_0) shapeCasts_S1x1024x256_S1024x256
/-- The code table of level 3. -/
def tab3 (C : FVec F S4x1024x256 .f32) : FVec F S1024x256 .f32 :=
  shapeCast _ (extractStridedSlice S1x1024x256 ![3, 0, 0] C slices_S4x1024x256_S1x1024x256_3_0_0) shapeCasts_S1x1024x256_S1024x256

/-- The squared distances of every row of the residual `R` to every code of the table `E`. -/
def refD (R : FVec F S16384x256 .f32) (E : FVec F S1024x256 .f32) : FVec F S16384x1024 .f32 :=
  subf (addf
      (broadcastInDim S16384x1024 ![0, 1] bcast_S16384x1_S16384x1024_0_1 (broadcastInDim S16384x1 ![0] bcast_S16384_S16384x1_0
        (Host.reduceAdd (mulf R R) (constant S_ .f32 0x00000000#32) reducesTo_S16384x256_S16384_d1 h_S_)))
      (broadcastInDim S16384x1024 ![0, 1] bcast_S1x1024_S16384x1024_0_1 (broadcastInDim S1x1024 ![1] bcast_S1024_S1x1024_1
        (Host.reduceAdd (mulf E E) (constant S_ .f32 0x00000000#32) reducesTo_S1024x256_S1024_d1 h_S_))))
    (mulf (broadcastInDim S16384x1024 ![] bcast_S_S16384x1024 (constant S_ .f32 0x40000000#32))
      (Host.dotGeneral dot_S16384x256_S256x1024_S16384x1024_1_0_0_1_n_n none R
        (transpose S256x1024 [1, 0] E transposes_S1024x256_S256x1024_1_0)))

/-- The index of the least distance, row by row. -/
def refI (R : FVec F S16384x256 .f32) (E : FVec F S1024x256 .f32) : IVec S16384 32 := fun j =>
  (Host.argReduce reducer_argmin_f32_i32 (refD R E) (iotaInDim S16384x1024 32 1) (constant S_ .f32 0x7F800000#32)
    (constantI S_ 32 0#32) reducesTo_S16384x1024_S16384_d1 h_S_ j).2

/-- The row numbers a look-up reads: an index below zero counted from the end. -/
def refW (I : IVec S16384 32) : IVec S16384x1 32 :=
  broadcastInDim S16384x1 ![0] bcast_S16384_S16384x1_0
    (select (cmpi .slt I (broadcastInDim S16384 ![] bcast_S_S16384 (constantI S_ 32 0#32)))
      (addi I (broadcastInDim S16384 ![] bcast_S_S16384 (constantI S_ 32 1024#32))) I)

/-- The codes at the indices `I`: the row where the index is in range, the filler elsewhere. -/
def refZ (E : FVec F S1024x256 .f32) (I : IVec S16384 32) : FVec F S16384x256 .f32 :=
  select
    (broadcastInDim S16384x256 ![0] bcast_S16384_S16384x256_0
      (Host.reduce IntOp.andi
        (andi (cmpi .sge (refW I) (broadcastInDim S16384x1 ![] bcast_S_S16384x1 (constantI S_ 32 0#32)))
          (cmpi .sle (refW I) (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x256_S16384x1_S16384x256_1_0_n_n_0_1_1256 E (refW I))
    (broadcastInDim S16384x256 ![] bcast_S_S16384x256 (constant S_ .f32 0x7FC00000#32))

/-- The mean over the whole array of the squared differences. -/
def refM (Z R : FVec F S16384x256 .f32) : FVec F S_ .f32 :=
  Host.divf (Host.reduceAdd (mulf (subf Z R) (subf Z R)) (constant S_ .f32 0x00000000#32) reducesTo_S16384x256_S_d0_1 h_S_)
    (constant S_ .f32 0x4A800000#32)

/-- A level's loss: the codebook term and a quarter of the commitment term. -/
def refL (Z R : FVec F S16384x256 .f32) : FVec F S_ .f32 :=
  addf (refM Z R) (mulf (constant S_ .f32 0x3E800000#32) (refM Z R))

/-- The straight-through value of the code `Z` at the residual `R`. -/
def refT (Z R : FVec F S16384x256 .f32) : FVec F S16384x256 .f32 := addf R (subf Z R)

/-- What a level adds to the sum. -/
def stp (R : FVec F S16384x256 .f32) (E : FVec F S1024x256 .f32) : FVec F S16384x256 .f32 := refT (refZ E (refI R E)) R
/-- The residual a level leaves. -/
def nxt (R : FVec F S16384x256 .f32) (E : FVec F S1024x256 .f32) : FVec F S16384x256 .f32 := subf R (stp R E)
/-- A level's loss. -/
def los (R : FVec F S16384x256 .f32) (E : FVec F S1024x256 .f32) : FVec F S_ .f32 := refL (refZ E (refI R E)) R

section Windows
variable (V : Valuation τ sig (Elt F))

set_option maxRecDepth 8192
set_option maxHeartbeats 4000000

theorem pre_zero : after (opsPre) V (no_index (Proc.devRef .tc main_v0)) = broadcastInDim S16384x256 ![] bcast_S_S16384x256 (constant S_ .f32 0x00000000#32) := by
  simp only [opsPre, TRef.binary, TRef.nullary, TRef.quaternary, TRef.unary, TRef.ternary, TRef.toBuf, TRef.ofBuf, cast_eq]
  after_results_simp
  all_goals rfl
theorem tab0_eq : after (opsA0) V (no_index (Proc.devRef .tc main_v2)) = tab0 (V (Proc.devRef .tc main_arg1)) := by
  simp only [opsA0, TRef.binary, TRef.nullary, TRef.quaternary, TRef.unary, TRef.ternary, TRef.toBuf, TRef.ofBuf, cast_eq]
  after_results_simp
  all_goals rfl
theorem idx0_eq : after (opsA0) V (no_index (Proc.devRef .tc main_v17)) = refI (V (Proc.devRef .tc main_arg0)) (tab0 (V (Proc.devRef .tc main_arg1))) := by
  simp only [opsA0, TRef.binary, TRef.nullary, TRef.quaternary, TRef.unary, TRef.ternary, TRef.toBuf, TRef.ofBuf, cast_eq]
  after_results_simp
  all_goals rfl
theorem code0_eq : after (opsB0) V (no_index (Proc.devRef .tc main_v18)) = refZ (V (Proc.devRef .tc main_v2)) (V (Proc.devRef .tc main_v17)) := by
  simp only [opsB0, TRef.binary, TRef.nullary, TRef.quaternary, TRef.unary, TRef.ternary, TRef.toBuf, TRef.ofBuf, cast_eq]
  after_results_simp
  all_goals rfl
theorem loss0_eq : after (opsC0) V (no_index (Proc.devRef .tc main_v28)) = refL (V (Proc.devRef .tc main_v18)) (V (Proc.devRef .tc main_arg0)) := by
  simp only [opsC0, TRef.binary, TRef.nullary, TRef.quaternary, TRef.unary, TRef.ternary, TRef.toBuf, TRef.ofBuf, cast_eq]
  after_results_simp
  all_goals rfl
theorem sum0_eq : after (opsC0) V (no_index (Proc.devRef .tc main_v32)) = addf (V (Proc.devRef .tc main_v0)) (refT (V (Proc.devRef .tc main_v18)) (V (Proc.devRef .tc main_arg0))) := by
  simp only [opsC0, TRef.binary, TRef.nullary, TRef.quaternary, TRef.unary, TRef.ternary, TRef.toBuf, TRef.ofBuf, cast_eq]
  after_results_simp
  all_goals rfl
theorem res0_eq : after (opsC0) V (no_index (Proc.devRef .tc main_v31)) = subf (V (Proc.devRef .tc main_arg0)) (refT (V (Proc.devRef .tc main_v18)) (V (Proc.devRef .tc main_arg0))) := by
  simp only [opsC0, TRef.binary, TRef.nullary, TRef.quaternary, TRef.unary, TRef.ternary, TRef.toBuf, TRef.ofBuf, cast_eq]
  after_results_simp
  all_goals rfl
theorem tab1_eq : after (opsA1a ++ opsA1b) V (no_index (Proc.devRef .tc main_v34)) = tab1 (V (Proc.devRef .tc main_arg1)) := by
  simp only [opsA1a, opsA1b, List.cons_append, List.nil_append, TRef.binary, TRef.nullary, TRef.quaternary, TRef.unary, TRef.ternary, TRef.toBuf, TRef.ofBuf, cast_eq]
  after_results_simp
  all_goals rfl
theorem idx1_eq : after (opsA1a ++ opsA1b) V (no_index (Proc.devRef .tc main_v49)) = refI (V (Proc.devRef .tc main_v31)) (tab1 (V (Proc.devRef .tc main_arg1))) := by
  simp only [opsA1a, opsA1b, List.cons_append, List.nil_append, TRef.binary, TRef.nullary, TRef.quaternary, TRef.unary, TRef.ternary, TRef.toBuf, TRef.ofBuf, cast_eq]
  after_results_simp
  all_goals rfl
theorem code1_eq : after (opsB1) V (no_index (Proc.devRef .tc main_v50)) = refZ (V (Proc.devRef .tc main_v34)) (V (Proc.devRef .tc main_v49)) := by
  simp only [opsB1, TRef.binary, TRef.nullary, TRef.quaternary, TRef.unary, TRef.ternary, TRef.toBuf, TRef.ofBuf, cast_eq]
  after_results_simp
  all_goals rfl
theorem loss1_eq : after (opsC1) V (no_index (Proc.devRef .tc main_v60)) = refL (V (Proc.devRef .tc main_v50)) (V (Proc.devRef .tc main_v31)) := by
  simp only [opsC1, TRef.binary, TRef.nullary, TRef.quaternary, TRef.unary, TRef.ternary, TRef.toBuf, TRef.ofBuf, cast_eq]
  after_results_simp
  all_goals rfl
theorem sum1_eq : after (opsC1) V (no_index (Proc.devRef .tc main_v64)) = addf (V (Proc.devRef .tc main_v32)) (refT (V (Proc.devRef .tc main_v50)) (V (Proc.devRef .tc main_v31))) := by
  simp only [opsC1, TRef.binary, TRef.nullary, TRef.quaternary, TRef.unary, TRef.ternary, TRef.toBuf, TRef.ofBuf, cast_eq]
  after_results_simp
  all_goals rfl
theorem res1_eq : after (opsC1) V (no_index (Proc.devRef .tc main_v63)) = subf (V (Proc.devRef .tc main_v31)) (refT (V (Proc.devRef .tc main_v50)) (V (Proc.devRef .tc main_v31))) := by
  simp only [opsC1, TRef.binary, TRef.nullary, TRef.quaternary, TRef.unary, TRef.ternary, TRef.toBuf, TRef.ofBuf, cast_eq]
  after_results_simp
  all_goals rfl
theorem tab2_eq : after (opsA2) V (no_index (Proc.devRef .tc main_v66)) = tab2 (V (Proc.devRef .tc main_arg1)) := by
  simp only [opsA2, TRef.binary, TRef.nullary, TRef.quaternary, TRef.unary, TRef.ternary, TRef.toBuf, TRef.ofBuf, cast_eq]
  after_results_simp
  all_goals rfl
theorem idx2_eq : after (opsA2) V (no_index (Proc.devRef .tc main_v81)) = refI (V (Proc.devRef .tc main_v63)) (tab2 (V (Proc.devRef .tc main_arg1))) := by
  simp only [opsA2, TRef.binary, TRef.nullary, TRef.quaternary, TRef.unary, TRef.ternary, TRef.toBuf, TRef.ofBuf, cast_eq]
  after_results_simp
  all_goals rfl
theorem code2_eq : after (opsB2) V (no_index (Proc.devRef .tc main_v82)) = refZ (V (Proc.devRef .tc main_v66)) (V (Proc.devRef .tc main_v81)) := by
  simp only [opsB2, TRef.binary, TRef.nullary, TRef.quaternary, TRef.unary, TRef.ternary, TRef.toBuf, TRef.ofBuf, cast_eq]
  after_results_simp
  all_goals rfl
theorem loss2_eq : after (opsC2a ++ opsC2b) V (no_index (Proc.devRef .tc main_v92)) = refL (V (Proc.devRef .tc main_v82)) (V (Proc.devRef .tc main_v63)) := by
  simp only [opsC2a, opsC2b, List.cons_append, List.nil_append, TRef.binary, TRef.nullary, TRef.quaternary, TRef.unary, TRef.ternary, TRef.toBuf, TRef.ofBuf, cast_eq]
  after_results_simp
  all_goals rfl
theorem sum2_eq : after (opsC2a ++ opsC2b) V (no_index (Proc.devRef .tc main_v96)) = addf (V (Proc.devRef .tc main_v64)) (refT (V (Proc.devRef .tc main_v82)) (V (Proc.devRef .tc main_v63))) := by
  simp only [opsC2a, opsC2b, List.cons_append, List.nil_append, TRef.binary, TRef.nullary, TRef.quaternary, TRef.unary, TRef.ternary, TRef.toBuf, TRef.ofBuf, cast_eq]
  after_results_simp
  all_goals rfl
theorem res2_eq : after (opsC2a ++ opsC2b) V (no_index (Proc.devRef .tc main_v95)) = subf (V (Proc.devRef .tc main_v63)) (refT (V (Proc.devRef .tc main_v82)) (V (Proc.devRef .tc main_v63))) := by
  simp only [opsC2a, opsC2b, List.cons_append, List.nil_append, TRef.binary, TRef.nullary, TRef.quaternary, TRef.unary, TRef.ternary, TRef.toBuf, TRef.ofBuf, cast_eq]
  after_results_simp
  all_goals rfl
theorem tab3_eq : after (opsA3) V (no_index (Proc.devRef .tc main_v98)) = tab3 (V (Proc.devRef .tc main_arg1)) := by
  simp only [opsA3, TRef.binary, TRef.nullary, TRef.quaternary, TRef.unary, TRef.ternary, TRef.toBuf, TRef.ofBuf, cast_eq]
  after_results_simp
  all_goals rfl
theorem idx3_eq : after (opsA3) V (no_index (Proc.devRef .tc main_v113)) = refI (V (Proc.devRef .tc main_v95)) (tab3 (V (Proc.devRef .tc main_arg1))) := by
  simp only [opsA3, TRef.binary, TRef.nullary, TRef.quaternary, TRef.unary, TRef.ternary, TRef.toBuf, TRef.ofBuf, cast_eq]
  after_results_simp
  all_goals rfl
theorem code3_eq : after (opsB3) V (no_index (Proc.devRef .tc main_v114)) = refZ (V (Proc.devRef .tc main_v98)) (V (Proc.devRef .tc main_v113)) := by
  simp only [opsB3, TRef.binary, TRef.nullary, TRef.quaternary, TRef.unary, TRef.ternary, TRef.toBuf, TRef.ofBuf, cast_eq]
  after_results_simp
  all_goals rfl
theorem loss3_eq : after (opsC3) V (no_index (Proc.devRef .tc main_v124)) = refL (V (Proc.devRef .tc main_v114)) (V (Proc.devRef .tc main_v95)) := by
  simp only [opsC3, TRef.binary, TRef.nullary, TRef.quaternary, TRef.unary, TRef.ternary, TRef.toBuf, TRef.ofBuf, cast_eq]
  after_results_simp
  all_goals rfl
theorem sum3_eq : after (opsC3) V (no_index (Proc.devRef .tc main_v128)) = addf (V (Proc.devRef .tc main_v96)) (refT (V (Proc.devRef .tc main_v114)) (V (Proc.devRef .tc main_v95))) := by
  simp only [opsC3, TRef.binary, TRef.nullary, TRef.quaternary, TRef.unary, TRef.ternary, TRef.toBuf, TRef.ofBuf, cast_eq]
  after_results_simp
  all_goals rfl
theorem mean_eq : after opsTail V (no_index (Proc.devRef .tc main_v135)) =
    Host.divf (Host.reduceAdd (stackLosses (broadcastInDim S1 ![] bcast_S_S1 (V (Proc.devRef .tc main_v28))) (broadcastInDim S1 ![] bcast_S_S1 (V (Proc.devRef .tc main_v60))) (broadcastInDim S1 ![] bcast_S_S1 (V (Proc.devRef .tc main_v92))) (broadcastInDim S1 ![] bcast_S_S1 (V (Proc.devRef .tc main_v124)))) (constant S_ .f32 0x00000000#32) reducesTo_S4_S_d0 h_S_) (constant S_ .f32 0x40800000#32) := by
  simp only [opsTail]
  after_results_simp
  all_goals rfl
theorem cols_eq : after opsTail V (no_index (Proc.devRef .tc main_v140)) =
    stackIndices (broadcastInDim S16384x1 ![0] bcast_S16384_S16384x1_0 (V (Proc.devRef .tc main_v17))) (broadcastInDim S16384x1 ![0] bcast_S16384_S16384x1_0 (V (Proc.devRef .tc main_v49))) (broadcastInDim S16384x1 ![0] bcast_S16384_S16384x1_0 (V (Proc.devRef .tc main_v81))) (broadcastInDim S16384x1 ![0] bcast_S16384_S16384x1_0 (V (Proc.devRef .tc main_v113))) := by
  simp only [opsTail]
  after_results_simp
  all_goals rfl

end Windows

/-- The reference's operations, level by level: the lists in a row, a level's two pieces as one. -/
theorem ops_levels : (ops : List (HloOp τ sig (Elt F))) =
    opsPre ++ (opsA0 ++ (opsB0 ++ (opsC0 ++ ((opsA1a ++ opsA1b) ++ (opsB1 ++ (opsC1 ++ (opsA2 ++ (opsB2 ++ ((opsC2a ++ opsC2b) ++
      (opsA3 ++ (opsB3 ++ (opsC3 ++ opsTail)))))))))))) := by
  simp only [ops, List.append_assoc]

section Whole
variable (V : Valuation τ sig (Elt F))

/-- A buffer that a list of operations does not write keeps its contents through it: the two-piece lists. -/
theorem keepA1 (V : Valuation τ sig (Elt F)) {r : Ref sig .tc} (h : r ∉ dstA1a) (h' : r ∉ dstA1b) :
    after (opsA1a ++ opsA1b) V (Proc.devRef .tc r) = V (Proc.devRef .tc r) := by
  rw [after_append, after_of_writes_sub opsA1b _ opsA1b_writes h', after_of_writes_sub opsA1a _ opsA1a_writes h]
theorem keepC2 (V : Valuation τ sig (Elt F)) {r : Ref sig .tc} (h : r ∉ dstC2a) (h' : r ∉ dstC2b) :
    after (opsC2a ++ opsC2b) V (Proc.devRef .tc r) = V (Proc.devRef .tc r) := by
  rw [after_append, after_of_writes_sub opsC2b _ opsC2b_writes h', after_of_writes_sub opsC2a _ opsC2a_writes h]

/-- The contents after the zero array, and after each level. -/
def at0 : Valuation τ sig (Elt F) := after opsPre V
def at1 : Valuation τ sig (Elt F) := after (opsC0) (after opsB0 (after (opsA0) (at0 V)))
def at2 : Valuation τ sig (Elt F) := after (opsC1) (after opsB1 (after (opsA1a ++ opsA1b) (at1 V)))
def at3 : Valuation τ sig (Elt F) := after (opsC2a ++ opsC2b) (after opsB2 (after (opsA2) (at2 V)))
def at4 : Valuation τ sig (Elt F) := after (opsC3) (after opsB3 (after (opsA3) (at3 V)))
theorem after_ops : after ops V = after opsTail (at4 V) := by
  rw [ops_levels]; simp only [after_append _ (_ ++ _), after_append opsC3, at4, at3, at2, at1, at0]

theorem at0_arg0 : at0 V (Proc.devRef .tc main_arg0) = V (Proc.devRef .tc main_arg0) := after_of_writes_sub opsPre _ opsPre_writes (by decide)
theorem at0_arg1 : at0 V (Proc.devRef .tc main_arg1) = V (Proc.devRef .tc main_arg1) := after_of_writes_sub opsPre _ opsPre_writes (by decide)
theorem at0_sum : at0 V (Proc.devRef .tc main_v0) = broadcastInDim S16384x256 ![] bcast_S_S16384x256 (constant S_ .f32 0x00000000#32) := pre_zero V

/-- A buffer level 0 does not write keeps its contents through it. -/
theorem keep0 {r : Ref sig .tc} (h : r ∉ dstA0 ++ dstB0 ++ dstC0) :
    at1 V (Proc.devRef .tc r) = at0 V (Proc.devRef .tc r) := by
  simp only [List.mem_append, not_or] at h
  exact (after_of_writes_sub opsC0 _ opsC0_writes h.2).trans ((after_of_writes_sub opsB0 _ opsB0_writes h.1.2).trans (after_of_writes_sub opsA0 _ opsA0_writes h.1.1))
theorem at1_idx : at1 V (Proc.devRef .tc main_v17) = refI (at0 V (Proc.devRef .tc main_arg0)) (tab0 (at0 V (Proc.devRef .tc main_arg1))) :=
  (after_of_writes_sub opsC0 _ opsC0_writes (by decide)).trans ((after_of_writes_sub opsB0 _ opsB0_writes (by decide)).trans (idx0_eq _))
theorem code0_at : after opsB0 (after (opsA0) (at0 V)) (Proc.devRef .tc main_v18) = refZ (tab0 (at0 V (Proc.devRef .tc main_arg1))) (refI (at0 V (Proc.devRef .tc main_arg0)) (tab0 (at0 V (Proc.devRef .tc main_arg1)))) := by
  rw [code0_eq, tab0_eq, idx0_eq]
theorem res0_at : after opsB0 (after (opsA0) (at0 V)) (Proc.devRef .tc main_arg0) = at0 V (Proc.devRef .tc main_arg0) :=
  (after_of_writes_sub opsB0 _ opsB0_writes (by decide)).trans (after_of_writes_sub opsA0 _ opsA0_writes (by decide))
theorem at1_loss : at1 V (Proc.devRef .tc main_v28) = los (at0 V (Proc.devRef .tc main_arg0)) (tab0 (at0 V (Proc.devRef .tc main_arg1))) := by
  refine (loss0_eq _).trans ?_
  rw [code0_at, res0_at]; rfl
theorem at1_sum : at1 V (Proc.devRef .tc main_v32) = addf (at0 V (Proc.devRef .tc main_v0)) (stp (at0 V (Proc.devRef .tc main_arg0)) (tab0 (at0 V (Proc.devRef .tc main_arg1)))) := by
  refine (sum0_eq _).trans ?_
  rw [code0_at, res0_at, after_of_writes_sub opsB0 _ opsB0_writes (show main_v0 ∉ _ by decide), after_of_writes_sub opsA0 _ opsA0_writes (show main_v0 ∉ _ by decide)]; rfl
theorem at1_res : at1 V (Proc.devRef .tc main_v31) = nxt (at0 V (Proc.devRef .tc main_arg0)) (tab0 (at0 V (Proc.devRef .tc main_arg1))) := by
  refine (res0_eq _).trans ?_
  rw [code0_at, res0_at]; rfl
theorem at1_arg1 : at1 V (Proc.devRef .tc main_arg1) = V (Proc.devRef .tc main_arg1) := (keep0 V (by decide)).trans (at0_arg1 V)
theorem at1_arg0 : at1 V (Proc.devRef .tc main_arg0) = V (Proc.devRef .tc main_arg0) := (keep0 V (by decide)).trans (at0_arg0 V)

/-- A buffer level 1 does not write keeps its contents through it. -/
theorem keep1 {r : Ref sig .tc} (h : r ∉ (dstA1a ++ dstA1b) ++ dstB1 ++ dstC1) :
    at2 V (Proc.devRef .tc r) = at1 V (Proc.devRef .tc r) := by
  simp only [List.mem_append, not_or] at h
  exact (after_of_writes_sub opsC1 _ opsC1_writes h.2).trans ((after_of_writes_sub opsB1 _ opsB1_writes h.1.2).trans (keepA1 _ h.1.1.1 h.1.1.2))
theorem at2_idx : at2 V (Proc.devRef .tc main_v49) = refI (at1 V (Proc.devRef .tc main_v31)) (tab1 (at1 V (Proc.devRef .tc main_arg1))) :=
  (after_of_writes_sub opsC1 _ opsC1_writes (by decide)).trans ((after_of_writes_sub opsB1 _ opsB1_writes (by decide)).trans (idx1_eq _))
theorem code1_at : after opsB1 (after (opsA1a ++ opsA1b) (at1 V)) (Proc.devRef .tc main_v50) = refZ (tab1 (at1 V (Proc.devRef .tc main_arg1))) (refI (at1 V (Proc.devRef .tc main_v31)) (tab1 (at1 V (Proc.devRef .tc main_arg1)))) := by
  rw [code1_eq, tab1_eq, idx1_eq]
theorem res1_at : after opsB1 (after (opsA1a ++ opsA1b) (at1 V)) (Proc.devRef .tc main_v31) = at1 V (Proc.devRef .tc main_v31) :=
  (after_of_writes_sub opsB1 _ opsB1_writes (by decide)).trans (keepA1 _ (by decide) (by decide))
theorem at2_loss : at2 V (Proc.devRef .tc main_v60) = los (at1 V (Proc.devRef .tc main_v31)) (tab1 (at1 V (Proc.devRef .tc main_arg1))) := by
  refine (loss1_eq _).trans ?_
  rw [code1_at, res1_at]; rfl
theorem at2_sum : at2 V (Proc.devRef .tc main_v64) = addf (at1 V (Proc.devRef .tc main_v32)) (stp (at1 V (Proc.devRef .tc main_v31)) (tab1 (at1 V (Proc.devRef .tc main_arg1)))) := by
  refine (sum1_eq _).trans ?_
  rw [code1_at, res1_at, after_of_writes_sub opsB1 _ opsB1_writes (show main_v32 ∉ _ by decide), keepA1 _ (show main_v32 ∉ _ by decide) (show main_v32 ∉ _ by decide)]; rfl
theorem at2_res : at2 V (Proc.devRef .tc main_v63) = nxt (at1 V (Proc.devRef .tc main_v31)) (tab1 (at1 V (Proc.devRef .tc main_arg1))) := by
  refine (res1_eq _).trans ?_
  rw [code1_at, res1_at]; rfl
theorem at2_arg1 : at2 V (Proc.devRef .tc main_arg1) = V (Proc.devRef .tc main_arg1) := (keep1 V (by decide)).trans (at1_arg1 V)
theorem at2_arg0 : at2 V (Proc.devRef .tc main_arg0) = V (Proc.devRef .tc main_arg0) := (keep1 V (by decide)).trans (at1_arg0 V)

/-- A buffer level 2 does not write keeps its contents through it. -/
theorem keep2 {r : Ref sig .tc} (h : r ∉ dstA2 ++ dstB2 ++ dstC2a ++ dstC2b) :
    at3 V (Proc.devRef .tc r) = at2 V (Proc.devRef .tc r) := by
  simp only [List.mem_append, not_or] at h
  exact (keepC2 _ h.1.2 h.2).trans ((after_of_writes_sub opsB2 _ opsB2_writes h.1.1.2).trans (after_of_writes_sub opsA2 _ opsA2_writes h.1.1.1))
theorem at3_idx : at3 V (Proc.devRef .tc main_v81) = refI (at2 V (Proc.devRef .tc main_v63)) (tab2 (at2 V (Proc.devRef .tc main_arg1))) :=
  (keepC2 _ (by decide) (by decide)).trans ((after_of_writes_sub opsB2 _ opsB2_writes (by decide)).trans (idx2_eq _))
theorem code2_at : after opsB2 (after (opsA2) (at2 V)) (Proc.devRef .tc main_v82) = refZ (tab2 (at2 V (Proc.devRef .tc main_arg1))) (refI (at2 V (Proc.devRef .tc main_v63)) (tab2 (at2 V (Proc.devRef .tc main_arg1)))) := by
  rw [code2_eq, tab2_eq, idx2_eq]
theorem res2_at : after opsB2 (after (opsA2) (at2 V)) (Proc.devRef .tc main_v63) = at2 V (Proc.devRef .tc main_v63) :=
  (after_of_writes_sub opsB2 _ opsB2_writes (by decide)).trans (after_of_writes_sub opsA2 _ opsA2_writes (by decide))
theorem at3_loss : at3 V (Proc.devRef .tc main_v92) = los (at2 V (Proc.devRef .tc main_v63)) (tab2 (at2 V (Proc.devRef .tc main_arg1))) := by
  refine (loss2_eq _).trans ?_
  rw [code2_at, res2_at]; rfl
theorem at3_sum : at3 V (Proc.devRef .tc main_v96) = addf (at2 V (Proc.devRef .tc main_v64)) (stp (at2 V (Proc.devRef .tc main_v63)) (tab2 (at2 V (Proc.devRef .tc main_arg1)))) := by
  refine (sum2_eq _).trans ?_
  rw [code2_at, res2_at, after_of_writes_sub opsB2 _ opsB2_writes (show main_v64 ∉ _ by decide), after_of_writes_sub opsA2 _ opsA2_writes (show main_v64 ∉ _ by decide)]; rfl
theorem at3_res : at3 V (Proc.devRef .tc main_v95) = nxt (at2 V (Proc.devRef .tc main_v63)) (tab2 (at2 V (Proc.devRef .tc main_arg1))) := by
  refine (res2_eq _).trans ?_
  rw [code2_at, res2_at]; rfl
theorem at3_arg1 : at3 V (Proc.devRef .tc main_arg1) = V (Proc.devRef .tc main_arg1) := (keep2 V (by decide)).trans (at2_arg1 V)
theorem at3_arg0 : at3 V (Proc.devRef .tc main_arg0) = V (Proc.devRef .tc main_arg0) := (keep2 V (by decide)).trans (at2_arg0 V)

/-- A buffer level 3 does not write keeps its contents through it. -/
theorem keep3 {r : Ref sig .tc} (h : r ∉ dstA3 ++ dstB3 ++ dstC3) :
    at4 V (Proc.devRef .tc r) = at3 V (Proc.devRef .tc r) := by
  simp only [List.mem_append, not_or] at h
  exact (after_of_writes_sub opsC3 _ opsC3_writes h.2).trans ((after_of_writes_sub opsB3 _ opsB3_writes h.1.2).trans (after_of_writes_sub opsA3 _ opsA3_writes h.1.1))
theorem at4_idx : at4 V (Proc.devRef .tc main_v113) = refI (at3 V (Proc.devRef .tc main_v95)) (tab3 (at3 V (Proc.devRef .tc main_arg1))) :=
  (after_of_writes_sub opsC3 _ opsC3_writes (by decide)).trans ((after_of_writes_sub opsB3 _ opsB3_writes (by decide)).trans (idx3_eq _))
theorem code3_at : after opsB3 (after (opsA3) (at3 V)) (Proc.devRef .tc main_v114) = refZ (tab3 (at3 V (Proc.devRef .tc main_arg1))) (refI (at3 V (Proc.devRef .tc main_v95)) (tab3 (at3 V (Proc.devRef .tc main_arg1)))) := by
  rw [code3_eq, tab3_eq, idx3_eq]
theorem res3_at : after opsB3 (after (opsA3) (at3 V)) (Proc.devRef .tc main_v95) = at3 V (Proc.devRef .tc main_v95) :=
  (after_of_writes_sub opsB3 _ opsB3_writes (by decide)).trans (after_of_writes_sub opsA3 _ opsA3_writes (by decide))
theorem at4_loss : at4 V (Proc.devRef .tc main_v124) = los (at3 V (Proc.devRef .tc main_v95)) (tab3 (at3 V (Proc.devRef .tc main_arg1))) := by
  refine (loss3_eq _).trans ?_
  rw [code3_at, res3_at]; rfl
theorem at4_sum : at4 V (Proc.devRef .tc main_v128) = addf (at3 V (Proc.devRef .tc main_v96)) (stp (at3 V (Proc.devRef .tc main_v95)) (tab3 (at3 V (Proc.devRef .tc main_arg1)))) := by
  refine (sum3_eq _).trans ?_
  rw [code3_at, res3_at, after_of_writes_sub opsB3 _ opsB3_writes (show main_v96 ∉ _ by decide), after_of_writes_sub opsA3 _ opsA3_writes (show main_v96 ∉ _ by decide)]; rfl
theorem at4_arg1 : at4 V (Proc.devRef .tc main_arg1) = V (Proc.devRef .tc main_arg1) := (keep3 V (by decide)).trans (at3_arg1 V)
theorem at4_arg0 : at4 V (Proc.devRef .tc main_arg0) = V (Proc.devRef .tc main_arg0) := (keep3 V (by decide)).trans (at3_arg0 V)

end Whole

/-- The residuals entering levels 1, 2 and 3. -/
def res1 (X : FVec F S16384x256 .f32) (C : FVec F S4x1024x256 .f32) : FVec F S16384x256 .f32 := nxt X (tab0 C)
def res2 (X : FVec F S16384x256 .f32) (C : FVec F S4x1024x256 .f32) : FVec F S16384x256 .f32 := nxt (res1 X C) (tab1 C)
def res3 (X : FVec F S16384x256 .f32) (C : FVec F S4x1024x256 .f32) : FVec F S16384x256 .f32 := nxt (res2 X C) (tab2 C)

/-- The reference's first result: the sum of the four levels' straight-through values. -/
def outSum (X : FVec F S16384x256 .f32) (C : FVec F S4x1024x256 .f32) : FVec F S16384x256 .f32 :=
  addf (addf (addf (addf (broadcastInDim S16384x256 ![] bcast_S_S16384x256 (constant S_ .f32 0x00000000#32))
    (stp X (tab0 C))) (stp (res1 X C) (tab1 C))) (stp (res2 X C) (tab2 C))) (stp (res3 X C) (tab3 C))

/-- The reference's second result: the mean of the four losses. -/
def outMean (X : FVec F S16384x256 .f32) (C : FVec F S4x1024x256 .f32) : FVec F S_ .f32 :=
  Host.divf (Host.reduceAdd (stackLosses
      (broadcastInDim S1 ![] bcast_S_S1 (los X (tab0 C))) (broadcastInDim S1 ![] bcast_S_S1 (los (res1 X C) (tab1 C)))
      (broadcastInDim S1 ![] bcast_S_S1 (los (res2 X C) (tab2 C))) (broadcastInDim S1 ![] bcast_S_S1 (los (res3 X C) (tab3 C))))
    (constant S_ .f32 0x00000000#32) reducesTo_S4_S_d0 h_S_) (constant S_ .f32 0x40800000#32)

/-- The reference's third result: the four columns of indices. -/
def outCols (X : FVec F S16384x256 .f32) (C : FVec F S4x1024x256 .f32) : IVec S16384x4 32 :=
  stackIndices (F := F)
    (broadcastInDim S16384x1 ![0] bcast_S16384_S16384x1_0 (refI X (tab0 C)))
    (broadcastInDim S16384x1 ![0] bcast_S16384_S16384x1_0 (refI (res1 X C) (tab1 C)))
    (broadcastInDim S16384x1 ![0] bcast_S16384_S16384x1_0 (refI (res2 X C) (tab2 C)))
    (broadcastInDim S16384x1 ![0] bcast_S16384_S16384x1_0 (refI (res3 X C) (tab3 C)))

theorem at1_residual (V : Valuation τ sig (Elt F)) :
    at1 V (Proc.devRef .tc main_v31) = res1 (V (Proc.devRef .tc main_arg0)) (V (Proc.devRef .tc main_arg1)) := by
  rw [at1_res, at0_arg0, at0_arg1]; rfl
theorem at2_residual (V : Valuation τ sig (Elt F)) :
    at2 V (Proc.devRef .tc main_v63) = res2 (V (Proc.devRef .tc main_arg0)) (V (Proc.devRef .tc main_arg1)) := by
  rw [at2_res, at1_residual, at1_arg1]; rfl
theorem at3_residual (V : Valuation τ sig (Elt F)) :
    at3 V (Proc.devRef .tc main_v95) = res3 (V (Proc.devRef .tc main_arg0)) (V (Proc.devRef .tc main_arg1)) := by
  rw [at3_res, at2_residual, at2_arg1]; rfl

theorem sum_value (V : Valuation τ sig (Elt F)) :
    after ops V (Proc.devRef .tc main_v128) = outSum (V (Proc.devRef .tc main_arg0)) (V (Proc.devRef .tc main_arg1)) := by
  rw [after_ops, after_of_writes_sub opsTail _ opsTail_writes (by decide), at4_sum, at3_sum, at2_sum, at1_sum, at0_sum,
    at3_residual, at2_residual, at1_residual, at0_arg0, at3_arg1, at2_arg1, at1_arg1, at0_arg1]; rfl

theorem mean_value (V : Valuation τ sig (Elt F)) :
    after ops V (Proc.devRef .tc main_v135) = outMean (V (Proc.devRef .tc main_arg0)) (V (Proc.devRef .tc main_arg1)) := by
  rw [after_ops, mean_eq,
    keep3 V (r := main_v28) (by decide), keep2 V (r := main_v28) (by decide), keep1 V (r := main_v28) (by decide),
    keep3 V (r := main_v60) (by decide), keep2 V (r := main_v60) (by decide), keep3 V (r := main_v92) (by decide),
    at4_loss, at3_loss, at2_loss, at1_loss,
    at3_residual, at2_residual, at1_residual, at0_arg0, at3_arg1, at2_arg1, at1_arg1, at0_arg1]; rfl

theorem cols_value (V : Valuation τ sig (Elt F)) :
    after ops V (Proc.devRef .tc main_v140) = outCols (V (Proc.devRef .tc main_arg0)) (V (Proc.devRef .tc main_arg1)) := by
  rw [after_ops, cols_eq,
    keep3 V (r := main_v17) (by decide), keep2 V (r := main_v17) (by decide), keep1 V (r := main_v17) (by decide),
    keep3 V (r := main_v49) (by decide), keep2 V (r := main_v49) (by decide), keep3 V (r := main_v81) (by decide),
    at4_idx, at3_idx, at2_idx, at1_idx,
    at3_residual, at2_residual, at1_residual, at0_arg0, at3_arg1, at2_arg1, at1_arg1, at0_arg1]; rfl

/-- The reference's run: its three results as functions of the arguments, and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128) = outSum (m ((c.tc : Thread nD τ).loc main_arg0)) (m ((c.tc : Thread nD τ).loc main_arg1))
      ∧ r.2.mem ((c.tc : Thread nD τ).loc main_v135) = outMean (m ((c.tc : Thread nD τ).loc main_arg0)) (m ((c.tc : Thread nD τ).loc main_arg1))
      ∧ r.2.mem ((c.tc : Thread nD τ).loc main_v140) = outCols (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v128).trans (sum_value _), (h c main_v135).trans (mean_value _),
      (h c main_v140).trans (cols_value _),
      (h c main_arg0).trans ((congrFun (after_ops _) _).trans ((after_of_writes_sub opsTail _ opsTail_writes (by decide)).trans (at4_arg0 _))),
      (h c main_arg1).trans ((congrFun (after_ops _) _).trans ((after_of_writes_sub opsTail _ opsTail_writes (by decide)).trans (at4_arg1 _)))⟩)
    (run m ρ)

end Cert.ReferenceIdeal.Line

end
-- ==== Proof.Spec.lean ====
/- Residual quantisation over the reals: what both programs compute, one row at a time. A row `r` meets a table of codes
   `e`; its code is the first of the codes at the least squared distance; the level adds that code to the sum and takes
   it off the row. -/
module

public import Idealize.ShloMosaic.Lib.Pointwise

@[expose] public section

noncomputable section

namespace Cert.Rvq

open Idealize.ShloMosaic

/-- `k` is the first position at which `d` is least. -/
def Least {n : Nat} (d : Fin n → ℝ) (k : Fin n) : Prop := (∀ j, d k ≤ d j) ∧ ∀ j, d j ≤ d k → k ≤ j

theorem exists_least {n : Nat} [NeZero n] (d : Fin n → ℝ) : ∃ k, Least d k := by
  obtain ⟨m, -, hm⟩ := Finset.exists_min_image (Finset.univ : Finset (Fin n)) d ⟨0, Finset.mem_univ _⟩
  obtain ⟨k, hk, hk'⟩ := Finset.exists_min_image (Finset.univ.filter fun j => d j ≤ d m) id ⟨m, by simp⟩
  have hkm : d k ≤ d m := (Finset.mem_filter.1 hk).2
  exact ⟨k, fun j => hkm.trans (hm j (Finset.mem_univ _)),
    fun j hj => hk' j (Finset.mem_filter.2 ⟨Finset.mem_univ _, hj.trans hkm⟩)⟩

/-- The first position at which `d` is least. -/
def first {n : Nat} [NeZero n] (d : Fin n → ℝ) : Fin n := Classical.choose (exists_least d)

theorem least_first {n : Nat} [NeZero n] (d : Fin n → ℝ) : Least d (first d) := Classical.choose_spec (exists_least d)

theorem Least.eq_first {n : Nat} [NeZero n] {d : Fin n → ℝ} {k : Fin n} (h : Least d k) : k = first d :=
  le_antisymm (h.2 _ ((least_first d).1 k)) ((least_first d).2 _ (h.1 _))

/-- A row of 256 numbers. -/
abbrev Row := Fin 256 → ℝ
/-- A table of 1024 codes. -/
abbrev Codes := Fin 1024 → Row

/-- The squared length of a row. -/
def sq (r : Row) : ℝ := ∑ j, r j * r j

/-- The squared distance of the row `r` to the code `k`, as both programs expand it. -/
def dist (r : Row) (e : Codes) (k : Fin 1024) : ℝ := (sq r + sq (e k)) - 2 * ∑ j, r j * e k j

/-- The number of the code the row takes. -/
def code (r : Row) (e : Codes) : Fin 1024 := first (dist r e)

theorem code_eq (r : Row) (e : Codes) : code r e = first (dist r e) := rfl

/-- The code the row takes. -/
def near (r : Row) (e : Codes) : Row := e (code r e)

/-- What the level leaves of the row. -/
def left (r : Row) (e : Codes) : Row := fun j => r j - near r e j

/-- The squared error of the level on the row. -/
def gap (r : Row) (e : Codes) : ℝ := ∑ j, (near r e j - r j) * (near r e j - r j)

/-- The row before level `l`. -/
def res (r : Row) (c : Fin 4 → Codes) : Nat → Row
  | 0 => r
  | l + 1 => if h : l < 4 then left (res r c l) (c ⟨l, h⟩) else res r c l

/-- The sum of the four codes. -/
def total (r : Row) (c : Fin 4 → Codes) (j : Fin 256) : ℝ :=
  ((near (res r c 0) (c 0) j + near (res r c 1) (c 1) j) + near (res r c 2) (c 2) j) + near (res r c 3) (c 3) j

/-- The four indices. -/
def cols (r : Row) (c : Fin 4 → Codes) (l : Fin 4) : Fin 1024 := code (res r c l) (c l)

/-- The squared error of level `l` over the rows of a block. -/
def err {n : Nat} (x : Fin n → Row) (c : Fin 4 → Codes) (l : Fin 4) : ℝ := ∑ i, gap (res (x i) c l) (c l)

/-- The word of a position is below `2 ^ 31`, so its order is the positions' order. -/
theorem toInt_word {k : Nat} (h : k < 1024) : (BitVec.ofNat 32 k).toInt = k := by
  rw [BitVec.toInt_eq_toNat_of_lt] <;> simp only [BitVec.toNat_ofNat] <;> omega

/-- A sum of real numbers, taken in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The constants the two programs print. -/
theorem ofBits_two : Ideal.ofBits .f32 0x40000000#32 = ((2 : ℝ) : EReal) := by
  simp [Ideal.ofBits, Ideal.ieee]; norm_num [← EReal.coe_mul]
theorem ofBits_top : Ideal.ofBits .f32 0x7F800000#32 = ⊤ := by
  simp [Ideal.ofBits, Ideal.ieee]
theorem ofBits_quarter : Ideal.ofBits .f32 0x3E800000#32 = ((1 / 4 : ℝ) : EReal) := by
  simp [Ideal.ofBits, Ideal.ieee]; norm_num [← EReal.coe_mul]
theorem ofBits_four : Ideal.ofBits .f32 0x40800000#32 = ((4 : ℝ) : EReal) := by
  simp [Ideal.ofBits, Ideal.ieee]; norm_num [← EReal.coe_mul]
theorem ofBits_entries : Ideal.ofBits .f32 0x4A800000#32 = ((4194304 : ℝ) : EReal) := by
  simp [Ideal.ofBits, Ideal.ieee]; norm_num [← EReal.coe_mul]

/-- The quotient of two real numbers, taken in the extended reals. -/
theorem coe_div (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem res_one (r : Row) (c : Fin 4 → Codes) : res r c 1 = left (res r c 0) (c 0) := rfl
theorem res_two (r : Row) (c : Fin 4 → Codes) : res r c 2 = left (res r c 1) (c 1) := rfl
theorem res_three (r : Row) (c : Fin 4 → Codes) : res r c 3 = left (res r c 2) (c 2) := rfl

/-- The mean over the four levels of each level's loss: its mean squared error and a quarter of it. -/
def meanLoss (x : Fin 16384 → Row) (c : Fin 4 → Codes) : ℝ :=
  (((err x c 0 / 4194304 + 1 / 4 * (err x c 0 / 4194304)) + (err x c 1 / 4194304 + 1 / 4 * (err x c 1 / 4194304)))
    + (err x c 2 / 4194304 + 1 / 4 * (err x c 2 / 4194304)) + (err x c 3 / 4194304 + 1 / 4 * (err x c 3 / 4194304))) / 4

end Cert.Rvq

end
end
-- ==== Proof.Finite.lean ====
/- The precondition read: every entry of the two arguments is a real number. -/
module

public import proofs.«01_k».proof.Pre_finite
public import proofs.«01_k».proof.Proof.Spec
public import Idealize.ShloMosaic.PureOps.Ideal
public import Idealize.ShloMosaic.Lib.ReduceAll
public import Idealize.ShloMosaic.Lib.Affine

@[expose] public section

noncomputable section

namespace Cert.Pre_finite

open Idealize.ShloMosaic

/-- The side conditions of the precondition's own operations. -/
theorem facts : Cert.Pre_finite.Facts where
  bcast_S_S16384x256 := by decide
  reducesTo_S16384x256_S_d0_1 := by decide
  h_S_ := by decide
  bcast_S_S4x1024x256 := by decide
  reducesTo_S4x1024x256_S_d0_1_2 := by decide

/-- A number whose size is below the top is a real number. -/
theorem real_of_size (v : EReal) (h : max v (-v) < ⊤) : v = ((v.toReal : ℝ) : EReal) := by
  refine (EReal.coe_toReal (fun e => ?_) (fun e => ?_)).symm
  · rw [e] at h; simp at h
  · rw [e] at h; simp at h

theorem infinity : Ideal.ofBits .f32 0x7F800000#32 = (⊤ : EReal) := by
  simp [Ideal.ofBits, Ideal.ieee]

/-- A mark of 1 from the comparison says the number compared is real. -/
theorem real_of_mark (v : EReal) (h : Ideal.cmp .olt (max v (-v)) (Ideal.ofBits .f32 0x7F800000#32) = 1#1) :
    v = ((v.toReal : ℝ) : EReal) := by
  rw [infinity] at h
  refine real_of_size v ?_
  by_contra hn
  simp [Ideal.cmp, hn] at h

instance : Subsingleton S_.Idx := ⟨fun a b => funext fun k => k.elim0⟩

variable [Facts]

/-- The precondition makes every entry of both arguments a real number. -/
theorem real_args (X : FVec Ideal S16384x256 .f32) (C : FVec Ideal S4x1024x256 .f32) (h : fn (F := Ideal) X C = fun _ => 1#1) :
    (∀ i, X i = (((X i : EReal).toReal : ℝ) : EReal)) ∧ ∀ i, C i = (((C i : EReal).toReal : ℝ) : EReal) := by
  have h0 := congrFun h (fun a => a.elim0)
  dsimp only [fn] at h0
  obtain ⟨hx, hc⟩ := IntOp.andi_eq_one.1 h0
  exact ⟨fun i => real_of_mark _ (Host.reduce_andi_all _ _ _ _ _ hx i), fun i => real_of_mark _ (Host.reduce_andi_all _ _ _ _ _ hc i)⟩

end Cert.Pre_finite

end
-- ==== Proof.KernelLevel.lean ====
/- One level of the kernel on a block of 512 rows: the level as functions of the residual block and the level's tables,
   what they are at an index over the reals, and the body's values as four of these levels. -/
module

public import proofs.«01_k».proof.Proof.Gen.KernelIdeal.Skeleton
public import proofs.«01_k».proof.Proof.Spec

@[expose] public section

noncomputable section

namespace Cert.KernelIdeal.Level

open Cert.KernelIdeal Cert.KernelIdeal.Gen Idealize.ShloMosaic Cert.Rvq

variable {F : FTy → Type} [FloatOps F]

/-- The column numbers of a block of distances. -/
def num : IVec S512x1024 32 := iota .tc S512x1024 32 [1] iota_S512x1024_d1_w32

/-- The squared lengths of the rows beside those of the codes. -/
def lenK (R : FVec F S512x256 .f32) (q : FVec F S1x1024 .f32) : FVec F S512x1024 .f32 :=
  addf (broadcastTo S512x1024 (shapeCast S512x1 (multiReduction .add [1] S512 (mulf R R) 0x00000000#32 reduces_S512x256_S512 (.inl rfl) rfl)
      shapeCasts_S512_S512x1) broadcasts_S512x1_S512x1024)
    (broadcastTo S512x1024 (shapeCast S1x1024 (shapeCast S1024 q shapeCasts_S1x1024_S1024) shapeCasts_S1024_S1x1024) broadcasts_S1x1024_S512x1024)

/-- The products of the rows with the scaled codes. -/
def dotK (R : FVec F S512x256 .f32) (T : FVec F S1x256x1024 .f32) : FVec F S512x1024 .f32 :=
  matmul dot_S512x256_S256x1024_S512x1024_1_0_0_1_n_n none R (shapeCast S256x1024 T shapeCasts_S1x256x1024_S256x1024)
    (constant S512x1024 .f32 0x00000000#32)

/-- The row's first column at its least distance, as the kernel finds it: the least of the columns that hold the minimum. -/
def minK (D : FVec F S512x1024 .f32) : IVec S512 32 :=
  multiReductionI .minsi [1] S512
    (select (cmpf .oeq D (broadcastTo S512x1024 (shapeCast S512x1
        (multiReduction .minimumf [1] S512 D 0x7F800000#32 reduces_S512x1024_S512 (.inl rfl) rfl) shapeCasts_S512_S512x1) broadcasts_S512x1_S512x1024))
      num (broadcast S512x1024 1024#32))
    2147483647#32 reduces_S512x1024_S512 rfl

/-- The indices of the level. -/
def idxK (R : FVec F S512x256 .f32) (T : FVec F S1x256x1024 .f32) (q : FVec F S1x1024 .f32) : IVec S512 32 :=
  minK (addf (lenK R q) (dotK R T))

/-- The indices as a column. -/
def colK (I : IVec S512 32) : IVec S512x1 32 := shapeCast S512x1 I shapeCasts_S512_S512x1

/-- The indices as rows of zeros and a one. -/
def hotK (I : IVec S512 32) : FVec F S512x1024 .bf16 :=
  truncf .bf16 (sitofp .f32 (extui 32 (cmpi .eq num (broadcastTo S512x1024 (colK I) broadcasts_S512x1_S512x1024)) natLt_1_32)) bitsLt_bf16_f32

/-- One product of the rows of zeros and a one with a table. -/
def pickK (H : FVec F S512x1024 .bf16) (e : FVec F S1x1024x256 .bf16) : FVec F S512x256 .f32 :=
  matmul dot_S512x1024_S1024x256_S512x256_1_0_0_1_n_n none H (shapeCast S1024x256 e shapeCasts_S1x1024x256_S1024x256)
    (constant S512x256 .f32 0x00000000#32)

/-- The codes, put together from the three tables. -/
def codeK (H : FVec F S512x1024 .bf16) (e0 e1 e2 : FVec F S1x1024x256 .bf16) : FVec F S512x256 .f32 :=
  addf (addf (pickK H e0) (pickK H e1)) (pickK H e2)

/-- The block's squared error. -/
def errK (Z R : FVec F S512x256 .f32) : F .f32 :=
  extractAt ![0, 0, 0] (shapeCast S1x1x1 (multiReduction .add [1, 2] S1 (shapeCast S1x512x256 (mulf (subf Z R) (subf Z R)) shapeCasts_S512x256_S1x512x256)
    0x00000000#32 reduces_S1x512x256_S1 (.inl rfl) rfl) shapeCasts_S1_S1x1x1) inpos_S1x1x1_p0_0_0

/-- The straight-through values. -/
def stK (Z R : FVec F S512x256 .f32) : FVec F S512x256 .f32 := addf R (subf Z R)

section Reals

/-- A fold of signed minima ends at its start or at one of its words, not above any of them. -/
theorem fold_minsi {n : Nat} (b : BitVec 32) (f : Fin n → BitVec 32) (s : Finset (Fin n)) :
    let r := s.fold IntOp.minsi b f
    (r = b ∨ ∃ k ∈ s, r = f k) ∧ r.toInt ≤ b.toInt ∧ ∀ k ∈ s, r.toInt ≤ (f k).toInt := by
  classical
  induction s using Finset.induction_on with
  | empty => simp
  | insert a s ha ih =>
    obtain ⟨hm, hb, hk⟩ := ih
    intro r
    have hr : r = IntOp.minsi (f a) (s.fold IntOp.minsi b f) := Finset.fold_insert ha
    by_cases h : (f a).toInt < (s.fold IntOp.minsi b f).toInt
    · have e : r = f a := by rw [hr]; simp [IntOp.minsi, BitVec.slt, h]
      rw [e]
      refine ⟨.inr ⟨a, Finset.mem_insert_self .., rfl⟩, h.le.trans hb, fun k hks => ?_⟩
      rcases Finset.mem_insert.1 hks with rfl | hks
      · exact le_rfl
      · exact h.le.trans (hk k hks)
    · have e : r = s.fold IntOp.minsi b f := by
        rw [hr]
        rcases lt_or_eq_of_le (not_lt.1 h) with h' | h'
        · simp [IntOp.minsi, BitVec.slt, h]
        · simp [IntOp.minsi, BitVec.slt, h]
      rw [e]
      refine ⟨?_, hb, fun k hks => ?_⟩
      · rcases hm with hm | ⟨k, hks, hm⟩
        · exact .inl hm
        · exact .inr ⟨k, Finset.mem_insert_of_mem hks, hm⟩
      · rcases Finset.mem_insert.1 hks with rfl | hks
        · exact not_lt.1 h
        · exact hk k hks

/-- A fold of minima of real numbers is the least of them. -/
theorem fold_min (d : Fin 1024 → ℝ) :
    (Finset.univ : Finset (Fin 1024)).fold min (⊤ : EReal) (fun k => ((d k : ℝ) : EReal)) = ((d (first d) : ℝ) : EReal) := by
  apply le_antisymm
  · exact Finset.fold_min_le _ |>.2 (.inr ⟨first d, Finset.mem_univ _, le_rfl⟩)
  · exact Finset.le_fold_min _ |>.2 ⟨le_top, fun k _ => EReal.coe_le_coe_iff.2 ((least_first d).1 k)⟩

theorem minK_at (D : FVec Ideal S512x1024 .f32) (d : Fin 1024 → ℝ) (i : Fin 512) (hD : ∀ k, D (ix2 i k) = ((d k : ℝ) : EReal)) :
    minK D (ix1 i) = BitVec.ofNat 32 (first d).val := by
  pointwise [minK, num]
  simp only [hD]
  rw [ofBits_top, fold_min]
  set f : Fin 1024 → BitVec 32 := fun k => if ((d k : ℝ) : EReal) = ((d (first d) : ℝ) : EReal) then BitVec.ofNat 32 k.val else 1024#32 with hf
  have hlow : f (first d) = BitVec.ofNat 32 (first d).val := by simp [hf]
  obtain ⟨hm, -, hk⟩ := fold_minsi 2147483647#32 f Finset.univ
  have hle := hk (first d) (Finset.mem_univ _)
  rw [hlow, toInt_word (first d).isLt] at hle
  have hlt : (first d).val < 1024 := (first d).isLt
  rcases hm with hm | ⟨k, -, hm⟩
  · rw [hm, show (2147483647#32).toInt = 2147483647 from by decide] at hle
    omega
  · rw [hm] at hle ⊢
    by_cases h : ((d k : ℝ) : EReal) = ((d (first d) : ℝ) : EReal)
    · have e : f k = BitVec.ofNat 32 k.val := by simp only [hf, if_pos h]
      rw [e, toInt_word k.isLt] at hle
      have h1 : k ≤ first d := Fin.le_def.2 (by exact_mod_cast hle)
      have h2 : first d ≤ k := (least_first d).2 k (EReal.coe_le_coe_iff.1 h.le)
      rw [e, le_antisymm h1 h2]
    · have e : f k = 1024#32 := by simp only [hf, if_neg h]
      rw [e, show (1024#32).toInt = 1024 from by decide] at hle
      omega

theorem dist_at (R : FVec Ideal S512x256 .f32) (T : FVec Ideal S1x256x1024 .f32) (q : FVec Ideal S1x1024 .f32) (x : Fin 512 → Row) (e : Codes)
    (hR : ∀ i j, R (ix2 i j) = ((x i j : ℝ) : EReal)) (hT : ∀ j k, T (ix3 0 j k) = ((-2 * e k j : ℝ) : EReal))
    (hq : ∀ k, q (ix2 0 k) = ((sq (e k) : ℝ) : EReal)) (i : Fin 512) (k : Fin 1024) :
    addf (lenK R q) (dotK R T) (ix2 i k) = ((dist (x i) e k : ℝ) : EReal) := by
  pointwise [lenK, dotK]
  simp only [hR, hT, hq, ← EReal.coe_mul, coe_sum, ← EReal.coe_add, ← EReal.coe_sub]
  have h : ∑ j, x i j * (-2 * e k j) = -(2 * ∑ j, x i j * e k j) := by
    rw [Finset.mul_sum, ← Finset.sum_neg_distrib]
    exact Finset.sum_congr rfl fun j _ => by ring
  rw [h, ← sub_eq_add_neg]; rfl

theorem pickK_at (I : IVec S512 32) (e : FVec Ideal S1x1024x256 .bf16) (v : Fin 1024 → EReal) (k : Fin 1024) (i : Fin 512) (j : Fin 256)
    (hI : I (ix1 i) = BitVec.ofNat 32 k.val) (he : ∀ k, e (ix3 0 k j) = v k) : pickK (hotK I) e (ix2 i j) = v k := by
  pointwise [pickK, hotK, colK, num]
  simp only [hI, he]
  rw [Finset.sum_eq_single k]
  · have h : IntOp.cmpi .eq (BitVec.ofNat 32 k.val) (BitVec.ofNat 32 k.val) = 1#1 := by simp [IntOp.cmpi]
    rw [h, show (FloatOps.sitofp .f32 (BitVec.setWidth 32 1#1) : Ideal .f32) = (1 : EReal) from ?_, one_mul]
    show (((BitVec.setWidth 32 1#1).toInt : ℝ) : EReal) = 1
    simp
  · intro l _ hl
    have hne : BitVec.ofNat 32 l.val ≠ BitVec.ofNat 32 k.val := fun e => hl (Fin.ext (by
      have := congrArg BitVec.toInt e
      rw [toInt_word l.isLt, toInt_word k.isLt] at this
      exact_mod_cast this))
    have h : IntOp.cmpi .eq (BitVec.ofNat 32 l.val) (BitVec.ofNat 32 k.val) = 0#1 := by
      show BitVec.ofBool (BitVec.ofNat 32 l.val == BitVec.ofNat 32 k.val) = 0#1
      rw [beq_eq_false_iff_ne.2 hne]; rfl
    rw [h, show (FloatOps.sitofp .f32 (BitVec.setWidth 32 0#1) : Ideal .f32) = (0 : EReal) from ?_, zero_mul]
    show (((BitVec.setWidth 32 0#1).toInt : ℝ) : EReal) = 0
    simp
  · exact fun h => absurd (Finset.mem_univ k) h

theorem errK_at (Z R : FVec Ideal S512x256 .f32) (z x : Fin 512 → Row)
    (hR : ∀ i j, R (ix2 i j) = ((x i j : ℝ) : EReal)) (hZ : ∀ i j, Z (ix2 i j) = ((z i j : ℝ) : EReal)) :
    errK Z R = ((∑ i, ∑ j, (z i j - x i j) * (z i j - x i j) : ℝ) : EReal) := by
  pointwise [errK, extractAt]
  simp only [hR, hZ, ← EReal.coe_mul, coe_sum, ← EReal.coe_add, ← EReal.coe_sub]

end Reals

end Cert.KernelIdeal.Level

end
end
-- ==== Proof.KernelBlock.lean ====
/- The kernel's body on a block of 512 rows: four levels, each on what the level before it left, and the three values the
   body stores, from the block and the tables. -/
module

public import proofs.«01_k».proof.Proof.KernelLevel

@[expose] public section

noncomputable section

namespace Cert.KernelIdeal.Level

open Cert.KernelIdeal Cert.KernelIdeal.Gen Idealize.ShloMosaic Cert.Rvq

variable {F : FTy → Type} [FloatOps F]

/-- The tables of the four levels: scaled codes, squared lengths, and the three tables the codes are put together from. -/
structure Tables (F : FTy → Type) [FloatOps F] where
  scaled : Fin 4 → FVec F S1x256x1024 .f32
  lens : Fin 4 → FVec F S1x1024 .f32
  first : Fin 4 → FVec F S1x1024x256 .bf16
  second : Fin 4 → FVec F S1x1024x256 .bf16
  third : Fin 4 → FVec F S1x1024x256 .bf16

variable (T : Tables F)

/-- The indices found at a level. -/
def ids (R : FVec F S512x256 .f32) (l : Fin 4) : IVec S512 32 := idxK R (T.scaled l) (T.lens l)

/-- The codes found at a level. -/
def found (R : FVec F S512x256 .f32) (l : Fin 4) : FVec F S512x256 .f32 :=
  codeK (hotK (ids T R l)) (T.first l) (T.second l) (T.third l)

/-- What a level adds to the result. -/
def part (R : FVec F S512x256 .f32) (l : Fin 4) : FVec F S512x256 .f32 := stK (found T R l) R

/-- What a level leaves. -/
def rest (R : FVec F S512x256 .f32) (l : Fin 4) : FVec F S512x256 .f32 := subf R (part T R l)

/-- The block before each level. -/
def resK (R : FVec F S512x256 .f32) : Fin 4 → FVec F S512x256 .f32
  | 0 => R
  | 1 => rest T R 0
  | 2 => rest T (rest T R 0) 1
  | 3 => rest T (rest T (rest T R 0) 1) 2

/-- The sum of the codes: the first output. -/
def sumK (R : FVec F S512x256 .f32) : FVec F S512x256 .f32 :=
  addf (addf (addf (addf (broadcast S512x256 (Scalar.ofBits .f32 0x00000000#32)) (part T (resK T R 0) 0)) (part T (resK T R 1) 1))
    (part T (resK T R 2) 2)) (part T (resK T R 3) 3)

/-- The columns of indices: the second output. -/
def colsK (R : FVec F S512x256 .f32) : IVec S512x4 32 :=
  concatenate S512x4 1 [⟨S512x1, colK (ids T (resK T R 0) 0)⟩, ⟨S512x1, colK (ids T (resK T R 1) 1)⟩,
    ⟨S512x1, colK (ids T (resK T R 2) 2)⟩, ⟨S512x1, colK (ids T (resK T R 3) 3)⟩] concatenates_S512x1_S512x1_S512x1_S512x1_S512x4_d1

/-- One level's squared error. -/
def lossK (R : FVec F S512x256 .f32) (l : Fin 4) : F .f32 := errK (found T R l) R

/-- The block's squared error over the four levels. -/
def lossesK (R : FVec F S512x256 .f32) : F .f32 :=
  Scalar.addf (Scalar.addf (Scalar.addf (Scalar.addf (Scalar.ofBits .f32 0x00000000#32) (lossK T (resK T R 0) 0)) (lossK T (resK T R 1) 1))
    (lossK T (resK T R 2) 2)) (lossK T (resK T R 3) 3)

/-- The running squared error after one more block: the third output. -/
def moreK (v : FVec F S1x128 .f32) (R : FVec F S512x256 .f32) : FVec F S1x128 .f32 :=
  addf v (broadcast S1x128 (lossesK T R))

/-- The level `l` of the tables, as the body loads it. -/
def tabs (a1 a2 a3 : Vec F S4x1024x256 .bf16) (a4 : Vec F S4x256x1024 .f32) (a5 : Vec F S4x1024 .f32) : Tables F where
  scaled l := View.ld a4 (Rect.unit ![l.val, 0, 0] ![1, 256, 1024] (by have := l.isLt; intro a; fin_cases a <;> simp <;> omega))
  lens l := View.ld a5 (Rect.unit ![l.val, 0] ![1, 1024] (by have := l.isLt; intro a; fin_cases a <;> simp <;> omega))
  first l := View.ld a1 (Rect.unit ![l.val, 0, 0] ![1, 1024, 256] (by have := l.isLt; intro a; fin_cases a <;> simp <;> omega))
  second l := View.ld a2 (Rect.unit ![l.val, 0, 0] ![1, 1024, 256] (by have := l.isLt; intro a; fin_cases a <;> simp <;> omega))
  third l := View.ld a3 (Rect.unit ![l.val, 0, 0] ![1, 1024, 256] (by have := l.isLt; intro a; fin_cases a <;> simp <;> omega))

section Payloads

variable (R S s0 s1 : FVec F S512x256 .f32) (t : FVec F S1x256x1024 .f32) (q : FVec F S1x1024 .f32) (a b c : FVec F S1x1024x256 .bf16)
  (H : FVec F S512x1024 .bf16) (I : IVec S512 32) (D D' : FVec F S512x1024 .f32) (e : F .f32)

theorem num_eq : iota .tc S512x1024 32 [1] iota_S512x1024_d1_w32 = num := rfl
theorem pay4_eq : k0_pay4 R t q = colK (idxK R t q) := rfl
theorem pay5_eq : k0_pay5 R t q = hotK (idxK R t q) := rfl
theorem pay6_eq : k0_pay6 R t q a = pickK (hotK (idxK R t q)) a := rfl
theorem pay7_eq : k0_pay7 R t q a = pickK (hotK (idxK R t q)) a := rfl
theorem pay8_eq : k0_pay8 H s0 s1 c = addf (addf s0 s1) (pickK H c) := rfl
theorem pay9_eq : k0_pay9 R H s0 s1 c = Scalar.addf (Scalar.ofBits .f32 0x00000000#32) (errK (k0_pay8 H s0 s1 c) R) := rfl
theorem pay10_eq : k0_pay10 R H s0 s1 c = stK (k0_pay8 H s0 s1 c) R := rfl
theorem pay11_eq : k0_pay11 R S H s0 s1 c = addf S (k0_pay10 R H s0 s1 c) := rfl
theorem pay12_eq : k0_pay12 R H s0 s1 c = subf R (k0_pay10 R H s0 s1 c) := rfl
theorem pay13_eq : k0_pay13 R num H s0 s1 c t q = colK (idxK (k0_pay12 R H s0 s1 c) t q) := rfl
theorem pay14_eq : k0_pay14 R num H s0 s1 c t q = hotK (idxK (k0_pay12 R H s0 s1 c) t q) := rfl
theorem pay16_eq : k0_pay16 H (k0_pay15 a) b c = codeK H a b c := rfl
theorem pay17_eq : k0_pay17 e R H (k0_pay15 a) b c = Scalar.addf e (errK (codeK H a b c) R) := rfl
theorem pay18_eq : k0_pay18 R H (k0_pay15 a) b c = stK (codeK H a b c) R := rfl
theorem pay19_eq : k0_pay19 S R H (k0_pay15 a) b c = addf S (stK (codeK H a b c) R) := rfl
theorem pay20_eq : k0_pay20 R H (k0_pay15 a) b c = subf R (stK (codeK H a b c) R) := rfl
theorem pay21_eq : k0_pay21 num R H (k0_pay15 a) b c t q = idxK (subf R (stK (codeK H a b c) R)) t q := rfl
theorem pay22_eq : k0_pay22 I = colK I := rfl
theorem pay23_eq : k0_pay23 num I a b c = codeK (hotK I) a b c := rfl
theorem pay24_eq : k0_pay24 num e R I a b c = Scalar.addf e (errK (codeK (hotK I) a b c) R) := rfl
theorem pay26_eq : k0_pay26 num S R I a b c = addf S (stK (codeK (hotK I) a b c) R) := rfl
theorem pay27_eq : k0_pay27 num R I a b c = subf R (stK (codeK (hotK I) a b c) R) := rfl
theorem pay28_eq : k0_pay28 num R I a b c t = dotK (subf R (stK (codeK (hotK I) a b c) R)) t := rfl
theorem pay29_eq : k0_pay29 num R I a b c q = lenK (subf R (stK (codeK (hotK I) a b c) R)) q := rfl
theorem pay30_eq : k0_pay30 num D D' = colK (minK (addf D' D)) := rfl
theorem pay31_eq : k0_pay31 num D D' a b c = codeK (hotK (minK (addf D' D))) a b c := rfl
theorem pay32_eq : k0_pay32 num e R D D' a b c = Scalar.addf e (errK (codeK (hotK (minK (addf D' D))) a b c) R) := rfl
theorem pay33_eq : k0_pay33 num S R D D' a b c = addf S (stK (codeK (hotK (minK (addf D' D))) a b c) R) := rfl
theorem pay34_eq (i j k : IVec S512x1 32) : k0_pay34 num i j k D D' = concatenate S512x4 1 [⟨S512x1, i⟩, ⟨S512x1, j⟩,
    ⟨S512x1, k⟩, ⟨S512x1, colK (minK (addf D' D))⟩] concatenates_S512x1_S512x1_S512x1_S512x1_S512x4_d1 := rfl
theorem pay2_eq (v : FVec F S1x128 .f32) : k0_pay2 e v = addf v (broadcast S1x128 e) := by
  unfold k0_pay2
  rw [shapeCast_self]

end Payloads

end Cert.KernelIdeal.Level

end
end
-- ==== Proof.KernelOuts.lean ====
/- What the body leaves in the three output buffers at a point of the grid: the values of the block at that point. -/
module

public import proofs.«01_k».proof.Proof.Gen.KernelIdeal.Frame
public import proofs.«01_k».proof.Proof.KernelBlock
public import Idealize.ShloMosaic.Lib.Pipeline.Value
public import Idealize.ShloMosaic.Lib.Tactic

@[expose] public section

noncomputable section

namespace Cert.KernelIdeal.Level

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The tables at a point. -/
def tabsAt (c : Dev nD) (t : Fin cfg0.N) : Tables F := tabs (iblk m c 1 t) (iblk m c 2 t) (iblk m c 3 t) (iblk m c 4 t) (iblk m c 5 t)

/-- The running error's start. -/
def zeroK : FVec F S1x128 .f32 := broadcast S1x128 (Scalar.ofBits .f32 0x00000000#32)

theorem hz : (![0, 0] : Fin 2 → Nat) = fun _ => 0 := funext fun a => by fin_cases a <;> rfl

theorem pay3_eq : (k0_pay3 : FVec F S512x256 .f32) = broadcast S512x256 (Scalar.ofBits .f32 0x00000000#32) := rfl
theorem pay1_eq : (k0_pay1 : FVec F S1x128 .f32) = zeroK := rfl

set_option maxHeartbeats 1000000 in
set_option maxRecDepth 65536 in
/-- The first point starts the running error at zero. -/
theorem outs_A (c : Dev nD) (t : Fin cfg0.N) (h0 : t.val % 32 = 0) :
    outsAt0 m c t.val t.isLt = (sumK (tabsAt m c t) (iblk m c 0 t), colsK (tabsAt m c t) (iblk m c 0 t),
      moreK (tabsAt m c t) zeroK (iblk m c 0 t)) := by
  rw [outsAt0_A m c t h0]
  refine Prod.ext ?_ (Prod.ext ?_ ?_)
  on_goal 1 => (dsimp only; unfold out0_A_6; rw [View.read_writes_eq_canon _ _ _ (cover0_A_6 c _ _ _ _ _ _ _ _ _ _ _ _ _ _ _ _ _ _ _ _ _ _ _ _ _ _)])
  on_goal 2 => (dsimp only; unfold out0_A_7; rw [View.read_writes_eq_canon _ _ _ (cover0_A_7 c _ _ _ _ _ _ _ _ _ _ _ _ _ _ _ _ _ _ _ _ _ _ _ _ _ _)])
  on_goal 3 => (dsimp only; unfold out0_A_8; rw [View.read_writes_eq_canon _ _ _ (cover0_A_8 c _ _ _ _ _ _ _ _ _ _ _ _ _ _ _ _ _ _ _ _ _ _ _ _ _ _)])
  all_goals
    unfold kernelRun0_A
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_8 t).read_unread]
    rw [View.canon_cons_unit_zero hz]
    try rw [View.readCov_unit_zero (S := S1x128) _ hz]
    simp only [View.ld_unit_zero (S := S512x256) hz, View.ld_unit_zero (S := S1x128) hz, num_eq, pay1_eq, pay2_eq, pay3_eq, pay4_eq, pay5_eq, pay6_eq, pay7_eq, pay8_eq, pay9_eq, pay10_eq, pay11_eq, pay12_eq, pay13_eq, pay14_eq, pay16_eq, pay17_eq, pay18_eq, pay19_eq, pay20_eq, pay21_eq, pay22_eq, pay23_eq, pay24_eq, pay26_eq, pay27_eq, pay28_eq, pay29_eq, pay30_eq, pay31_eq, pay32_eq, pay33_eq, pay34_eq]
    simp only [sumK, colsK, moreK, lossesK, lossK, part, found, ids, resK, rest, tabsAt, tabs]
    exact rfl

set_option maxHeartbeats 1000000 in
set_option maxRecDepth 65536 in
/-- Every other point goes on from the point before. -/
theorem outs_B (c : Dev nD) (t : Fin cfg0.N) (h0 : ¬t.val % 32 = 0) :
    outsAt0 m c t.val t.isLt = (sumK (tabsAt m c t) (iblk m c 0 t), colsK (tabsAt m c t) (iblk m c 0 t),
      moreK (tabsAt m c t) (outsAt0 m c (t.val - 1) (Nat.lt_of_le_of_lt (Nat.sub_le _ _) t.isLt)).2.2 (iblk m c 0 t)) := by
  rw [outsAt0_B m c t h0]
  refine Prod.ext ?_ (Prod.ext ?_ ?_)
  on_goal 1 => (dsimp only; unfold out0_B_6; rw [View.read_writes_eq_canon _ _ _ (cover0_B_6 c _ _ _ _ _ _ _ _ _ _ _ _ _ _ _ _ _ _ _ _ _ _ _ _ _ _ _)])
  on_goal 2 => (dsimp only; unfold out0_B_7; rw [View.read_writes_eq_canon _ _ _ (cover0_B_7 c _ _ _ _ _ _ _ _ _ _ _ _ _ _ _ _ _ _ _ _ _ _ _ _ _ _ _)])
  on_goal 3 => (dsimp only; unfold out0_B_8; rw [View.read_writes_eq_canon _ _ _ (cover0_B_8 c _ _ _ _ _ _ _ _ _ _ _ _ _ _ _ _ _ _ _ _ _ _ _ _ _ _ _)])
  all_goals
    unfold kernelRun0_B
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_8 t).read_unread]
    rw [View.canon_cons_unit_zero hz]
    try rw [View.readCov_unit_zero (S := S1x128) _ hz]
    simp only [View.ld_unit_zero (S := S512x256) hz, View.ld_unit_zero (S := S1x128) hz, num_eq, pay1_eq, pay2_eq, pay3_eq, pay4_eq, pay5_eq, pay6_eq, pay7_eq, pay8_eq, pay9_eq, pay10_eq, pay11_eq, pay12_eq, pay13_eq, pay14_eq, pay16_eq, pay17_eq, pay18_eq, pay19_eq, pay20_eq, pay21_eq, pay22_eq, pay23_eq, pay24_eq, pay26_eq, pay27_eq, pay28_eq, pay29_eq, pay30_eq, pay31_eq, pay32_eq, pay33_eq, pay34_eq]
    simp only [sumK, colsK, moreK, lossesK, lossK, part, found, ids, resK, rest, tabsAt, tabs]
    exact rfl

end Cert.KernelIdeal.Level

end
end
-- ==== Proof.KernelReal.lean ====
/- The kernel's body over the reals: with tables made from real codes and a block of real rows, the three stored values are
   the sums of the nearest codes, their indices and the block's squared error. -/
module

public import proofs.«01_k».proof.Proof.KernelBlock

@[expose] public section

noncomputable section

namespace Cert.KernelIdeal.Level

open Cert.KernelIdeal Cert.KernelIdeal.Gen Idealize.ShloMosaic Cert.Rvq

/-- The tables hold the codes `c`: scaled by minus two, as squared lengths, and whole in the first of the three tables. -/
structure Holds (T : Tables Ideal) (c : Fin 4 → Codes) : Prop where
  scaled : ∀ l j k, T.scaled l (ix3 0 j k) = ((-2 * c l k j : ℝ) : EReal)
  lens : ∀ l k, T.lens l (ix2 0 k) = ((sq (c l k) : ℝ) : EReal)
  first : ∀ l k j, T.first l (ix3 0 k j) = ((c l k j : ℝ) : EReal)
  second : ∀ l k j, T.second l (ix3 0 k j) = 0
  third : ∀ l k j, T.third l (ix3 0 k j) = 0

/-- The block holds the rows `x`. -/
def Rows (R : FVec Ideal S512x256 .f32) (x : Fin 512 → Row) : Prop := ∀ i j, R (ix2 i j) = ((x i j : ℝ) : EReal)

/-- Four columns of words side by side. -/
theorem colsOf_at (I0 I1 I2 I3 : IVec S512 32) (n : Fin 4 → Fin 1024) (i : Fin 512) (h0 : I0 (ix1 i) = BitVec.ofNat 32 (n 0).val)
    (h1 : I1 (ix1 i) = BitVec.ofNat 32 (n 1).val) (h2 : I2 (ix1 i) = BitVec.ofNat 32 (n 2).val)
    (h3 : I3 (ix1 i) = BitVec.ofNat 32 (n 3).val) (l : Fin 4) :
    concatenate S512x4 1 [⟨S512x1, colK I0⟩, ⟨S512x1, colK I1⟩, ⟨S512x1, colK I2⟩, ⟨S512x1, colK I3⟩]
      concatenates_S512x1_S512x1_S512x1_S512x1_S512x4_d1 (ix2 i l) = BitVec.ofNat 32 (n l).val := by
  pointwise [colK]
  rw [h0, h1, h2, h3]
  match l with
  | 0 => rfl
  | 1 => rfl
  | 2 => rfl
  | 3 => rfl

variable {T : Tables Ideal} {c : Fin 4 → Codes} (hT : Holds T c)
include hT

section Level

variable {R : FVec Ideal S512x256 .f32} {x : Fin 512 → Row} (hR : Rows R x) (l : Fin 4)
include hR

theorem ids_at (i : Fin 512) : ids T R l (ix1 i) = BitVec.ofNat 32 (code (x i) (c l)).val := by
  have e : ids T R l = minK (addf (lenK R (T.lens l)) (dotK R (T.scaled l))) := rfl
  rw [e, code_eq]
  exact minK_at _ (dist (x i) (c l)) i (dist_at R (T.scaled l) (T.lens l) x (c l) hR (hT.scaled l) (hT.lens l) i)

theorem found_rows : Rows (found T R l) fun i => near (x i) (c l) := fun i j => by
  have hI := ids_at hT hR l i
  have e : found T R l (ix2 i j) = (pickK (hotK (ids T R l)) (T.first l) (ix2 i j) + pickK (hotK (ids T R l)) (T.second l) (ix2 i j))
      + pickK (hotK (ids T R l)) (T.third l) (ix2 i j) := rfl
  rw [e, pickK_at _ _ (fun k => ((c l k j : ℝ) : EReal)) (code (x i) (c l)) i j hI fun k => hT.first l k j,
    pickK_at _ _ (fun _ => 0) (code (x i) (c l)) i j hI fun k => hT.second l k j,
    pickK_at _ _ (fun _ => 0) (code (x i) (c l)) i j hI fun k => hT.third l k j, add_zero, add_zero]
  rfl

theorem part_rows : Rows (part T R l) fun i => near (x i) (c l) := fun i j => by
  have e : part T R l (ix2 i j) = R (ix2 i j) + (found T R l (ix2 i j) - R (ix2 i j)) := rfl
  rw [e, hR i j, found_rows hT hR l i j, ← EReal.coe_sub, ← EReal.coe_add, add_sub_cancel]

theorem rest_rows : Rows (rest T R l) fun i => left (x i) (c l) := fun i j => by
  have e : rest T R l (ix2 i j) = R (ix2 i j) - part T R l (ix2 i j) := rfl
  rw [e, hR i j, part_rows hT hR l i j, ← EReal.coe_sub]
  rfl

theorem lossK_eq : lossK T R l = ((∑ i, gap (x i) (c l) : ℝ) : EReal) :=
  errK_at (found T R l) R (fun i => near (x i) (c l)) x hR (found_rows hT hR l)

end Level

variable {R : FVec Ideal S512x256 .f32} {x : Fin 512 → Row} (hR : Rows R x)
include hR

theorem resK_rows : ∀ l : Fin 4, Rows (resK T R l) fun i => res (x i) c l
  | 0 => hR
  | 1 => rest_rows hT hR 0
  | 2 => rest_rows hT (rest_rows hT hR 0) 1
  | 3 => rest_rows hT (rest_rows hT (rest_rows hT hR 0) 1) 2

theorem sumK_at (i : Fin 512) (j : Fin 256) : sumK T R (ix2 i j) = ((total (x i) c j : ℝ) : EReal) := by
  have e : sumK T R (ix2 i j) = (((Ideal.ofBits .f32 0x00000000#32 + part T (resK T R 0) 0 (ix2 i j)) + part T (resK T R 1) 1 (ix2 i j))
      + part T (resK T R 2) 2 (ix2 i j)) + part T (resK T R 3) 3 (ix2 i j) := rfl
  have h := fun l => part_rows hT (resK_rows hT hR l) l i j
  rw [e, h 0, h 1, h 2, h 3, Ideal.ofBits_zero, zero_add]
  simp only [← EReal.coe_add]
  rfl

theorem colsK_at (i : Fin 512) (l : Fin 4) : colsK T R (ix2 i l) = BitVec.ofNat 32 (cols (x i) c l).val :=
  colsOf_at _ _ _ _ (cols (x i) c) i (ids_at hT (resK_rows hT hR 0) 0 i) (ids_at hT (resK_rows hT hR 1) 1 i)
    (ids_at hT (resK_rows hT hR 2) 2 i) (ids_at hT (resK_rows hT hR 3) 3 i) l

theorem lossesK_eq : lossesK T R = ((((err x c 0 + err x c 1) + err x c 2) + err x c 3 : ℝ) : EReal) := by
  have e : lossesK T R = (((Ideal.ofBits .f32 0x00000000#32 + lossK T (resK T R 0) 0) + lossK T (resK T R 1) 1)
      + lossK T (resK T R 2) 2) + lossK T (resK T R 3) 3 := rfl
  have h := fun l => lossK_eq hT (resK_rows hT hR l) l
  rw [e, h 0, h 1, h 2, h 3, Ideal.ofBits_zero, zero_add]
  simp only [← EReal.coe_add]
  rfl

end Cert.KernelIdeal.Level

end
end
-- ==== Proof.KernelHost.lean ====
/- The arrays the kernel is launched on, from the arguments: the rows as they come, the scaled codes, their squared lengths
   and the three tables; and the blocks the body reads from them at a point of the grid. -/
module

public import proofs.«01_k».proof.Proof.KernelOuts
public import proofs.«01_k».proof.Proof.KernelReal
public import Idealize.ShloMosaic.Lib.Pipeline.ValueKit.Tiles

@[expose] public section

noncomputable section

namespace Cert.KernelIdeal.Level

open Cert.KernelIdeal Cert.KernelIdeal.Gen Idealize.ShloMosaic Idealize.ShloMosaic.TcCoe Idealize.SL.Sem Idealize.ShloMosaic.StableHlo Cert.Rvq

section Arrays

variable {F : FTy → Type} [FloatOps F]
variable (m : (ℓ : Loc nD τ sig) → Buf (Elt F) ℓ) (c : Dev nD)

/-- The codebooks the kernel is called on. -/
abbrev books : FVec F S4x1024x256 .f32 := m ((c : Thread nD τ).loc main_arg1)

/-- The codes short of their first table. -/
def short (C : FVec F S4x1024x256 .f32) : FVec F S4x1024x256 .f32 :=
  subf C (extf .f32 (truncf .bf16 C bitsLt_bf16_f32) bitsLt_bf16_f32)

set_option maxRecDepth 8192 in
theorem V_first : V m c main_v5 = truncf .bf16 (books m c) bitsLt_bf16_f32 := by
  unfold V V0
  simp only [hostOps0, List.flatten_cons, List.flatten_nil, List.append_nil]
  after_results_simp
  all_goals rfl

set_option maxRecDepth 8192 in
theorem V_second : V m c main_v8 = truncf .bf16 (short (books m c)) bitsLt_bf16_f32 := by
  unfold V V0
  simp only [hostOps0, List.flatten_cons, List.flatten_nil, List.append_nil]
  after_results_simp
  all_goals rfl

set_option maxRecDepth 8192 in
theorem V_third : V m c main_v11 = truncf .bf16 (short (short (books m c))) bitsLt_bf16_f32 := by
  unfold V V0
  simp only [hostOps0, List.flatten_cons, List.flatten_nil, List.append_nil]
  after_results_simp
  all_goals rfl

set_option maxRecDepth 8192 in
theorem V_scaled : V m c main_v2 = transpose S4x256x1024 [0, 2, 1]
    (mulf (broadcastInDim S4x1024x256 ![] bcast_S_S4x1024x256 (constant S_ .f32 0xC0000000#32)) (books m c))
    transposes_S4x1024x256_S4x256x1024_0_2_1 := by
  unfold V V0
  simp only [hostOps0, List.flatten_cons, List.flatten_nil, List.append_nil]
  after_results_simp
  all_goals rfl

set_option maxRecDepth 8192 in
theorem V_lens : V m c main_v4 = Host.reduceAdd (mulf (books m c) (books m c)) (constant S_ .f32 0x00000000#32)
    reducesTo_S4x1024x256_S4x1024_d2 h_S_ := by
  unfold V V0
  simp only [hostOps0, List.flatten_cons, List.flatten_nil, List.append_nil]
  after_results_simp
  all_goals rfl

theorem hi0 : ∀ t : Fin cfg0.N, win0_0.index t 0 = t.val ∧ win0_0.index t 1 = 0 := by decide +kernel
theorem hi1 : ∀ (t : Fin cfg0.N) (a : Fin 3), win0_1.index t a = 0 := by decide +kernel
theorem hi2 : ∀ (t : Fin cfg0.N) (a : Fin 3), win0_2.index t a = 0 := by decide +kernel
theorem hi3 : ∀ (t : Fin cfg0.N) (a : Fin 3), win0_3.index t a = 0 := by decide +kernel
theorem hi4 : ∀ (t : Fin cfg0.N) (a : Fin 3), win0_4.index t a = 0 := by decide +kernel
theorem hi5 : ∀ (t : Fin cfg0.N) (a : Fin 2), win0_5.index t a = 0 := by decide +kernel

theorem blk1 (t : Fin cfg0.N) : iblk m c 1 t = V m c main_v5 :=
  have hz : (fun a => win0_1.index t a * main_v5.ty.shape.size a) = fun _ => 0 := funext fun a => by rw [hi1 t a, Nat.zero_mul]
  Memref.read_access_unit_zero (Elt F) main_v5 hz (fun a => by rw [congrFun hz a]; simp) _
theorem blk2 (t : Fin cfg0.N) : iblk m c 2 t = V m c main_v8 :=
  have hz : (fun a => win0_2.index t a * main_v8.ty.shape.size a) = fun _ => 0 := funext fun a => by rw [hi2 t a, Nat.zero_mul]
  Memref.read_access_unit_zero (Elt F) main_v8 hz (fun a => by rw [congrFun hz a]; simp) _
theorem blk3 (t : Fin cfg0.N) : iblk m c 3 t = V m c main_v11 :=
  have hz : (fun a => win0_3.index t a * main_v11.ty.shape.size a) = fun _ => 0 := funext fun a => by rw [hi3 t a, Nat.zero_mul]
  Memref.read_access_unit_zero (Elt F) main_v11 hz (fun a => by rw [congrFun hz a]; simp) _
theorem blk4 (t : Fin cfg0.N) : iblk m c 4 t = V m c main_v2 :=
  have hz : (fun a => win0_4.index t a * main_v2.ty.shape.size a) = fun _ => 0 := funext fun a => by rw [hi4 t a, Nat.zero_mul]
  Memref.read_access_unit_zero (Elt F) main_v2 hz (fun a => by rw [congrFun hz a]; simp) _
theorem blk5 (t : Fin cfg0.N) : iblk m c 5 t = V m c main_v4 :=
  have hz : (fun a => win0_5.index t a * main_v4.ty.shape.size a) = fun _ => 0 := funext fun a => by rw [hi5 t a, Nat.zero_mul]
  Memref.read_access_unit_zero (Elt F) main_v4 hz (fun a => by rw [congrFun hz a]; simp) _

/-- The row of the arguments a block's row is. -/
def rowAt (t : Fin cfg0.N) (i : Fin 512) : Fin 16384 :=
  ⟨512 * t.val + i.val, by have h : t.val < 32 := lt_of_lt_of_eq t.isLt N_0; have := i.isLt; omega⟩

theorem blk0_at (t : Fin cfg0.N) (i : Fin 512) (j : Fin 256) :
    iblk m c 0 t (ix2 i j) = m ((c : Thread nD τ).loc main_arg0) (ix2 (rowAt t i) j) := by
  obtain ⟨h0, h1⟩ := hi0 t
  unfold iblk
  rw [View.read_apply]
  show V m c main_arg0 _ = _
  rw [V_main_arg0]
  congr 1
  funext a
  apply Fin.ext
  match a with
  | ⟨0, _⟩ => show win0_0.index t 0 * 512 + 1 * i.val = 512 * t.val + i.val; rw [h0]; omega
  | ⟨1, _⟩ => show win0_0.index t 1 * 256 + 1 * j.val = j.val; rw [h1]; omega

end Arrays

section Slabs

variable {F : FTy → Type} [FloatOps F]
variable (a1 a2 a3 : Vec F S4x1024x256 .bf16) (a4 : Vec F S4x256x1024 .f32) (a5 : Vec F S4x1024 .f32) (l : Fin 4)

theorem tabs_scaled (j : Fin 256) (k : Fin 1024) : (tabs a1 a2 a3 a4 a5).scaled l (ix3 0 j k) = a4 (ix3 l j k) :=
  congrArg a4 (funext fun a => Fin.ext (by fin_cases a <;> simp))
theorem tabs_lens (k : Fin 1024) : (tabs a1 a2 a3 a4 a5).lens l (ix2 0 k) = a5 (ix2 l k) :=
  congrArg a5 (funext fun a => Fin.ext (by fin_cases a <;> simp))
theorem tabs_first (k : Fin 1024) (j : Fin 256) : (tabs a1 a2 a3 a4 a5).first l (ix3 0 k j) = a1 (ix3 l k j) :=
  congrArg a1 (funext fun a => Fin.ext (by fin_cases a <;> simp))
theorem tabs_second (k : Fin 1024) (j : Fin 256) : (tabs a1 a2 a3 a4 a5).second l (ix3 0 k j) = a2 (ix3 l k j) :=
  congrArg a2 (funext fun a => Fin.ext (by fin_cases a <;> simp))
theorem tabs_third (k : Fin 1024) (j : Fin 256) : (tabs a1 a2 a3 a4 a5).third l (ix3 0 k j) = a3 (ix3 l k j) :=
  congrArg a3 (funext fun a => Fin.ext (by fin_cases a <;> simp))

end Slabs

section Reals

variable (m : (ℓ : Loc nD τ sig) → Buf (Elt Ideal) ℓ) (c : Dev nD)

theorem ofBits_scale : Ideal.ofBits .f32 0xC0000000#32 = ((-2 : ℝ) : EReal) := by
  simp [Ideal.ofBits, Ideal.ieee]; norm_num [← EReal.coe_mul]

theorem short_at (C : FVec Ideal S4x1024x256 .f32) (j : S4x1024x256.Idx) (v : ℝ) (h : C j = (v : EReal)) :
    short C j = ((0 : ℝ) : EReal) := by
  have e : short C j = C j - C j := rfl
  rw [e, h, ← EReal.coe_sub, sub_self]

/-- The tables at every point hold the codes of the codebooks. -/
theorem holds (e : Fin 4 → Codes) (hC : ∀ l k j, books m c (ix3 l k j) = ((e l k j : ℝ) : EReal)) (t : Fin cfg0.N) :
    Holds (tabsAt m c t) e where
  scaled l j k := by
    rw [tabsAt, tabs_scaled, blk4, V_scaled]
    pointwise []
    rw [hC, ofBits_scale, ← EReal.coe_mul]
  lens l k := by
    rw [tabsAt, tabs_lens, blk5, V_lens]
    pointwise []
    simp only [hC, ← EReal.coe_mul, coe_sum]
    rfl
  first l k j := by
    rw [tabsAt, tabs_first, blk1, V_first]
    exact hC l k j
  second l k j := by
    rw [tabsAt, tabs_second, blk2, V_second]
    exact short_at _ _ _ (hC l k j)
  third l k j := by
    rw [tabsAt, tabs_third, blk3, V_third]
    exact short_at _ _ _ (short_at _ _ _ (hC l k j))

/-- The block at a point holds its rows. -/
theorem rows (x : Fin 16384 → Row) (hX : ∀ i j, m ((c : Thread nD τ).loc main_arg0) (ix2 i j) = ((x i j : ℝ) : EReal)) (t : Fin cfg0.N) :
    Rows (iblk m c 0 t) fun i => x (rowAt t i) := fun i j => by
  rw [blk0_at]
  exact hX _ _

end Reals

end Cert.KernelIdeal.Level

end
end
-- ==== Proof.KernelValue.lean ====
/- The kernel's results after the run, over the reals: every block of the sums and of the indices is what its point left, and
   the loss is read from the running error after the last point. -/
module

public import proofs.«01_k».proof.Proof.KernelHost

@[expose] public section

noncomputable section

namespace Cert.KernelIdeal.Level

open Cert.KernelIdeal Cert.KernelIdeal.Gen Idealize.ShloMosaic Idealize.ShloMosaic.TcCoe Idealize.SL.Sem Idealize.ShloMosaic.StableHlo Cert.Rvq

section Arrays

variable {F : FTy → Type} [FloatOps F]
variable (m : (ℓ : Loc nD τ sig) → Buf (Elt F) ℓ) (c : Dev nD)

theorem sum_out (t : Fin cfg0.N) : (outsAt0 m c t.val t.isLt).1 = sumK (tabsAt m c t) (iblk m c 0 t) := by
  by_cases h0 : t.val % 32 = 0
  · rw [outs_A m c t h0]
  · rw [outs_B m c t h0]

theorem cols_out (t : Fin cfg0.N) : (outsAt0 m c t.val t.isLt).2.1 = colsK (tabsAt m c t) (iblk m c 0 t) := by
  by_cases h0 : t.val % 32 = 0
  · rw [outs_A m c t h0]
  · rw [outs_B m c t h0]

theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ (t : Fin cfg0.N) (a : Fin 2), win0_8.index t a = 0 := by decide +kernel

/-- Every row of the sums after the run is the row its point left. -/
theorem sum_arr (t : Fin cfg0.N) (i : Fin 512) (j : Fin 256) :
    (dats m 0 c).arrAt 6 cfg0.N (ix2 (rowAt t i) j) = sumK (tabsAt m c t) (iblk m c 0 t) (ix2 i j) := by
  have hd : ∀ t t' : Fin cfg0.N, (cfg0.win 6).flush t = true → (cfg0.win 6).flush t' = true → t ≠ t' →
      Disjoint ((cfg0.win 6).blk t).view.set ((cfg0.win 6).blk t').view.set := fun t t' _ _ hne =>
    (cfg0.win 6).disjoint_blk fun h => hne (Fin.ext ((idx6 t).1.symm.trans ((congrFun h 0).trans (idx6 t').1)))
  have h := (dats m 0 c).read_blk_arrAt_eq_flushed 6 hd cfg0.N t t.isLt (flush0_6 t)
  have hf : (dats m 0 c).flushed 6 t = (cfg0.win 6).cut (grid0.coords t) ((outsAt0 m c t.val t.isLt).1) := by
    show (cfg0.win 6).cut (grid0.coords t) ((dats m 0 c).after 6 t) = _
    rw [after0_6]
  rw [hf, sum_out] at h
  have h' := congrFun h (ix2 i j)
  rw [View.read_apply] at h'
  refine Eq.trans (congrArg _ (funext fun a => Fin.ext ?_)) h'
  match a with
  | ⟨0, _⟩ => show 512 * t.val + i.val = win0_6.index t 0 * 512 + 1 * i.val; rw [(idx6 t).1]; omega
  | ⟨1, _⟩ => show j.val = win0_6.index t 1 * 256 + 1 * j.val; rw [(idx6 t).2]; omega

/-- Every row of the indices after the run is the row its point left. -/
theorem cols_arr (t : Fin cfg0.N) (i : Fin 512) (l : Fin 4) :
    (dats m 0 c).arrAt 7 cfg0.N (ix2 (rowAt t i) l) = colsK (tabsAt m c t) (iblk m c 0 t) (ix2 i l) := by
  have hd : ∀ t t' : Fin cfg0.N, (cfg0.win 7).flush t = true → (cfg0.win 7).flush t' = true → t ≠ t' →
      Disjoint ((cfg0.win 7).blk t).view.set ((cfg0.win 7).blk t').view.set := fun t t' _ _ hne =>
    (cfg0.win 7).disjoint_blk fun h => hne (Fin.ext ((idx7 t).1.symm.trans ((congrFun h 0).trans (idx7 t').1)))
  have h := (dats m 0 c).read_blk_arrAt_eq_flushed 7 hd cfg0.N t t.isLt (flush0_7 t)
  have hf : (dats m 0 c).flushed 7 t = (cfg0.win 7).cut (grid0.coords t) ((outsAt0 m c t.val t.isLt).2.1) := by
    show (cfg0.win 7).cut (grid0.coords t) ((dats m 0 c).after 7 t) = _
    rw [after0_7]
  rw [hf, cols_out] at h
  have h' := congrFun h (ix2 i l)
  rw [View.read_apply] at h'
  refine Eq.trans (congrArg _ (funext fun a => Fin.ext ?_)) h'
  match a with
  | ⟨0, _⟩ => show 512 * t.val + i.val = win0_7.index t 0 * 512 + 1 * i.val; rw [(idx7 t).1]; omega
  | ⟨1, _⟩ => show l.val = win0_7.index t 1 * 4 + 1 * l.val; rw [(idx7 t).2]; omega

/-- The last point of the grid. -/
def lastPt : Fin cfg0.N := ⟨31, by rw [show cfg0.N = 32 from N_0]; decide⟩

/-- The running error after the run is what the last point left. -/
theorem err_arr : (dats m 0 c).arrAt 8 cfg0.N = (outsAt0 m c lastPt.val lastPt.isLt).2.2 := by
  have hlt : ∀ t : Fin cfg0.N, t.val < 32 := fun t => lt_of_lt_of_eq t.isLt N_0
  have hd : ∀ t t' : Fin cfg0.N, (cfg0.win 8).flush t = true → (cfg0.win 8).flush t' = true → t ≠ t' →
      Disjoint ((cfg0.win 8).blk t).view.set ((cfg0.win 8).blk t').view.set := fun t t' h h' hne => by
    have h := (flush0_8 t).1 h
    have h' := (flush0_8 t').1 h'
    have := hlt t
    have := hlt t'
    exact absurd (Fin.ext (by omega)) hne
  have h := (dats m 0 c).read_blk_arrAt_eq_flushed 8 hd cfg0.N lastPt lastPt.isLt ((flush0_8 lastPt).2 rfl)
  have hf : (dats m 0 c).flushed 8 lastPt = (outsAt0 m c lastPt.val lastPt.isLt).2.2 := by
    show (cfg0.win 8).cut (grid0.coords lastPt) ((dats m 0 c).after 8 lastPt) = _
    rw [after0_8]
    rfl
  rw [hf] at h
  have hz : (fun a => win0_8.index lastPt a * main_v12_2.ty.shape.size a) = fun _ => 0 := funext fun a => by rw [idx8 lastPt a, Nat.zero_mul]
  exact (Memref.read_access_unit_zero (Elt F) main_v12_2 hz (fun a => by rw [congrFun hz a]; simp) _).symm.trans h

/-- The loss from the running error. -/
def lossOf (E : FVec F S1x128 .f32) : FVec F S_ .f32 :=
  Host.divf (mulf (constant S_ .f32 0x3FA00000#32) (shapeCast S_ (extractStridedSlice S1x1 ![0, 0] E slices_S1x128_S1x1_0_0) shapeCasts_S1x1_S_))
    (constant S_ .f32 0x4B800000#32)

set_option maxRecDepth 8192 in
theorem loss_tail (W : Valuation τ sig (Elt F)) :
    after hostOps1 W (no_index (Proc.devRef .tc main_v16)) = lossOf (W (Proc.devRef .tc main_v12_2)) := by
  simp only [hostOps1]
  after_results_simp
  all_goals rfl

theorem loss_arr : Pipeline.afterTail₀ cfgs (dats m) 0 (V0 m) [hostOps1] c main_v16 = lossOf ((outsAt0 m c lastPt.val lastPt.isLt).2.2) := by
  unfold Pipeline.afterTail₀
  simp only [List.flatten_cons, List.flatten_nil, List.append_nil]
  rw [loss_tail, ← err_arr]
  exact congrArg lossOf (Pipeline.withArrays_arr spec0 (by decide +kernel) c (V0 m c) _ 8)

end Arrays

section Reals

variable (m : (ℓ : Loc nD τ sig) → Buf (Elt Ideal) ℓ) (c : Dev nD) (x : Fin 16384 → Row) (e : Fin 4 → Codes)

/-- Every row is a row of some block. -/
theorem exists_rowAt (i : Fin 16384) : ∃ t r, i = rowAt t r := by
  have ht : i.val / 512 < cfg0.N := lt_of_lt_of_eq (by have := i.isLt; omega : i.val / 512 < 32) (show cfg0.N = 32 from N_0).symm
  exact ⟨⟨i.val / 512, ht⟩, ⟨i.val % 512, Nat.mod_lt _ (by decide)⟩, Fin.ext (Nat.div_add_mod _ _).symm⟩

/-- The squared error of the block `s`, over its four levels. -/
def blockErr (s : Nat) : ℝ :=
  let y : Fin 512 → Row := fun i => x ⟨(512 * s + i.val) % 16384, Nat.mod_lt _ (by decide)⟩
  ((err y e 0 + err y e 1) + err y e 2) + err y e 3

/-- The sum over the blocks of a sum over their rows is the sum over all rows. -/
theorem sum_blocks (g : Fin 16384 → ℝ) :
    ∑ s ∈ Finset.range 32, ∑ i : Fin 512, g ⟨(512 * s + i.val) % 16384, Nat.mod_lt _ (by decide)⟩ = ∑ r, g r := by
  rw [Finset.sum_range, ← Fintype.sum_prod_type' (f := fun (s : Fin 32) (i : Fin 512) => g ⟨(512 * s.val + i.val) % 16384, Nat.mod_lt _ (by decide)⟩)]
  refine Fintype.sum_equiv (finProdFinEquiv (m := 32) (n := 512)) _ _ fun p => congrArg g (Fin.ext ?_)
  show (512 * p.1.val + p.2.val) % 16384 = p.2.val + 512 * p.1.val
  have := p.1.isLt
  have := p.2.isLt
  omega

theorem sum_err (l : Fin 4) :
    ∑ s ∈ Finset.range 32, err (fun i : Fin 512 => x ⟨(512 * s + i.val) % 16384, Nat.mod_lt _ (by decide)⟩) e l = err x e l :=
  sum_blocks fun r => gap (res (x r) e l) (e l)

theorem sum_blockErr : ∑ s ∈ Finset.range 32, blockErr x e s = ((err x e 0 + err x e 1) + err x e 2) + err x e 3 := by
  simp only [blockErr, Finset.sum_add_distrib, sum_err]

theorem ofBits_five_quarters : Ideal.ofBits .f32 0x3FA00000#32 = ((5 / 4 : ℝ) : EReal) := by
  simp [Ideal.ofBits, Ideal.ieee]; norm_num [← EReal.coe_mul]
theorem ofBits_all : Ideal.ofBits .f32 0x4B800000#32 = ((16777216 : ℝ) : EReal) := by
  simp [Ideal.ofBits, Ideal.ieee]; norm_num [← EReal.coe_mul]

theorem lossOf_at (E : FVec Ideal S1x128 .f32) (v : ℝ) (h : E (ix2 0 0) = (v : EReal)) :
    lossOf E ix0 = ((5 / 4 * v / 16777216 : ℝ) : EReal) := by
  pointwise [lossOf]
  rw [h, ofBits_five_quarters, ofBits_all, ← EReal.coe_mul, coe_div _ (by norm_num)]

variable (hX : ∀ i j, m ((c : Thread nD τ).loc main_arg0) (ix2 i j) = ((x i j : ℝ) : EReal))
  (hC : ∀ l k j, books m c (ix3 l k j) = ((e l k j : ℝ) : EReal))
include hX hC

theorem losses_at (t : Fin cfg0.N) : lossesK (tabsAt m c t) (iblk m c 0 t) = ((blockErr x e t.val : ℝ) : EReal) := by
  rw [lossesK_eq (holds m c e hC t) (rows m c x hX t)]
  have hr : ∀ i : Fin 512, rowAt t i = ⟨(512 * t.val + i.val) % 16384, Nat.mod_lt _ (by decide)⟩ := fun i =>
    Fin.ext (Nat.mod_eq_of_lt (rowAt t i).isLt).symm
  simp only [hr]
  rfl

/-- The running error after a point is the error of the blocks up to it. -/
theorem running : ∀ (n : Nat) (h : n < cfg0.N) (k : Fin 128),
    (outsAt0 m c n h).2.2 (ix2 0 k) = ((∑ s ∈ Finset.range (n + 1), blockErr x e s : ℝ) : EReal)
  | 0, h, k => by
    have e0 := congrArg (fun o => o.2.2 (ix2 0 k)) (outs_A m c ⟨0, h⟩ rfl)
    refine e0.trans ?_
    show Ideal.ofBits .f32 0x00000000#32 + lossesK (tabsAt m c ⟨0, h⟩) (iblk m c 0 ⟨0, h⟩) = _
    rw [losses_at m c x e hX hC ⟨0, h⟩, Ideal.ofBits_zero, zero_add, Finset.sum_range_one]
  | n + 1, h, k => by
    have hn : n + 1 < 32 := lt_of_lt_of_eq h N_0
    have e1 := congrArg (fun o => o.2.2 (ix2 0 k)) (outs_B m c ⟨n + 1, h⟩ (by show ¬(n + 1) % 32 = 0; omega))
    refine e1.trans ?_
    show (outsAt0 m c n _).2.2 (ix2 0 k) + lossesK (tabsAt m c ⟨n + 1, h⟩) (iblk m c 0 ⟨n + 1, h⟩) = _
    rw [losses_at m c x e hX hC ⟨n + 1, h⟩, running n _ k, ← EReal.coe_add, ← Finset.sum_range_succ]

/-- The kernel's first result. -/
theorem result_sum (i : Fin 16384) (j : Fin 256) : (dats m 0 c).arrAt 6 cfg0.N (ix2 i j) = ((total (x i) e j : ℝ) : EReal) := by
  obtain ⟨t, r, rfl⟩ := exists_rowAt i
  rw [sum_arr, sumK_at (holds m c e hC t) (rows m c x hX t)]

/-- The kernel's third result. -/
theorem result_cols (i : Fin 16384) (l : Fin 4) : (dats m 0 c).arrAt 7 cfg0.N (ix2 i l) = BitVec.ofNat 32 (cols (x i) e l).val := by
  obtain ⟨t, r, rfl⟩ := exists_rowAt i
  rw [cols_arr, colsK_at (holds m c e hC t) (rows m c x hX t)]

/-- The kernel's second result. -/
theorem result_mean : lossOf (F := Ideal) ((outsAt0 m c lastPt.val lastPt.isLt).2.2) ix0 = ((meanLoss x e : ℝ) : EReal) := by
  have h := running m c x e hX hC lastPt.val lastPt.isLt 0
  rw [show lastPt.val + 1 = 32 from rfl, sum_blockErr] at h
  refine (lossOf_at _ _ h).trans (congrArg _ ?_)
  unfold meanLoss
  ring

end Reals

end Cert.KernelIdeal.Level

end
end
-- ==== Proof.RefLevel.lean ====
/- One level of the reference at an index, over the reals: the index word is the word of the first least position, the
   code looked up is that row of the table. -/
module

public import proofs.«01_k».proof.Proof.RefRun
public import proofs.«01_k».proof.Proof.Spec
public import Idealize.ShloMosaic.Lib.Routing.Ops

@[expose] public section

noncomputable section

namespace Cert.ReferenceIdeal.Line

open Cert.ReferenceIdeal Cert.ReferenceIdeal.Gen Idealize.ShloMosaic Cert.Rvq

/-- The word order of the reducer: a smaller value, or an equal value at a smaller signed word. -/
def Below (a b : EReal × BitVec 32) : Prop := a.1 < b.1 ∨ (a.1 = b.1 ∧ a.2.toInt ≤ b.2.toInt)

theorem Below.refl (a : EReal × BitVec 32) : Below a a := .inr ⟨rfl, le_rfl⟩

theorem Below.trans {a b c : EReal × BitVec 32} (h : Below a b) (h' : Below b c) : Below a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reducer keeps one of its two pairs, and the one that is below the other. -/
theorem reducer_keeps (a b : EReal × BitVec 32) :
    let r := reducer_argmin_f32_i32 (F := Ideal) a b
    (r = a ∨ r = b) ∧ Below r a ∧ Below r b := by
  intro r
  obtain ⟨x, i⟩ := a
  obtain ⟨y, k⟩ := b
  have left : r = (x, i) → Below (x, i) (y, k) → (r = (x, i) ∨ r = (y, k)) ∧ Below r (x, i) ∧ Below r (y, k) :=
    fun e h => ⟨.inl e, by rw [e]; exact .refl _, by rw [e]; exact h⟩
  have right : r = (y, k) → Below (y, k) (x, i) → (r = (x, i) ∨ r = (y, k)) ∧ Below r (x, i) ∧ Below r (y, k) :=
    fun e h => ⟨.inr e, by rw [e]; exact h, by rw [e]; exact .refl _⟩
  rcases lt_trichotomy x y with h | h | h
  · refine left ?_ (.inl h)
    simp [r, reducer_argmin_f32_i32, Ideal.cmpf_def, Ideal.cmp, h, IntOp.ori, IntOp.andi, Scalar.select, h.ne]
  · subst h
    by_cases hi : i.toInt < k.toInt
    · refine left ?_ (.inr ⟨rfl, hi.le⟩)
      simp [r, reducer_argmin_f32_i32, Ideal.cmpf_def, Ideal.cmp, IntOp.ori, IntOp.andi, Scalar.select, IntOp.cmpi, BitVec.slt, hi]
    · refine right ?_ (.inr ⟨rfl, not_lt.1 hi⟩)
      simp [r, reducer_argmin_f32_i32, Ideal.cmpf_def, Ideal.cmp, IntOp.ori, IntOp.andi, Scalar.select, IntOp.cmpi, BitVec.slt, hi]
  · refine right ?_ (.inl h)
    simp [r, reducer_argmin_f32_i32, Ideal.cmpf_def, Ideal.cmp, h, h.not_gt, IntOp.ori, IntOp.andi, Scalar.select, h.ne']

/-- A fold of the reducer ends at a pair it met, below every pair it met. -/
theorem fold_keeps (l : List (EReal × BitVec 32)) (p : EReal × BitVec 32) :
    let r := l.foldl (reducer_argmin_f32_i32 (F := Ideal)) p
    r ∈ p :: l ∧ ∀ q ∈ p :: l, Below r q := by
  induction l generalizing p with
  | nil => simp [Below.refl]
  | cons a l ih =>
    obtain ⟨hm, hb⟩ := ih (reducer_argmin_f32_i32 (F := Ideal) p a)
    obtain ⟨hk, hp, ha⟩ := reducer_keeps p a
    have h0 := hb _ (List.mem_cons_self ..)
    refine ⟨?_, ?_⟩
    · rcases List.mem_cons.1 hm with h | h
      · rcases hk with hk | hk
        · simp only [List.foldl_cons]; rw [h, hk]; exact List.mem_cons_self ..
        · simp only [List.foldl_cons]; rw [h, hk]; exact List.mem_cons_of_mem _ (List.mem_cons_self ..)
      · exact List.mem_cons_of_mem _ (List.mem_cons_of_mem _ h)
    · intro q hq
      rcases List.mem_cons.1 hq with rfl | hq
      · exact h0.trans hp
      rcases List.mem_cons.1 hq with rfl | hq
      · exact h0.trans ha
      · exact hb q (List.mem_cons_of_mem _ hq)

/-- The index column as a function of the row. Said of the whole column: at a row, the pair the reduction leaves would be
    computed out. -/
theorem refI_eq (R : FVec Ideal S16384x256 .f32) (E : FVec Ideal S1024x256 .f32) : refI R E = fun j =>
    (Host.argReduce (F := Ideal) reducer_argmin_f32_i32 (refD R E) (iotaInDim S16384x1024 32 1) (constant S_ .f32 0x7F800000#32)
      (constantI S_ 32 0#32) reducesTo_S16384x1024_S16384_d1 h_S_ j).2 := rfl

/-- The reference's arg-min over a row of real numbers is the word of the first least position. -/
theorem argmin_at (D : FVec Ideal S16384x1024 .f32) (d : Fin 1024 → ℝ) (i : Fin 16384)
    (hD : ∀ k, D (ix2 i k) = ((d k : ℝ) : EReal)) :
    (Host.argReduce (F := Ideal) reducer_argmin_f32_i32 D (iotaInDim S16384x1024 32 1) (constant S_ .f32 0x7F800000#32)
      (constantI S_ 32 0#32) reducesTo_S16384x1024_S16384_d1 h_S_ (ix1 i)).2 = BitVec.ofNat 32 (first d).val := by
  rw [Ideal.argReduce_eq_reduce2, Host.reduce2_eq_foldl_fiber]
  have hmem : ∀ q, q ∈ Host.argReduceFiber D (iotaInDim S16384x1024 32 1) reducesTo_S16384x1024_S16384_d1 (ix1 i) ↔
      ∃ k : Fin 1024, q = (((d k : ℝ) : EReal), BitVec.ofNat 32 k.val) := by
    intro q
    simp only [Host.argReduceFiber, List.mem_map, List.mem_filter, List.mem_finRange, true_and, decide_eq_true_eq]
    constructor
    · rintro ⟨n, hn, rfl⟩
      obtain ⟨k, hk⟩ := (reducesTo_S16384x1024_S16384_d1.fiber_r2_a1 _ _).1 hn
      refine ⟨k, ?_⟩
      rw [← hk]
      exact Prod.ext (hD k) rfl
    · rintro ⟨k, rfl⟩
      refine ⟨S16384x1024.rowMajor (ix2 i k), ?_, ?_⟩
      · rw [Equiv.symm_apply_apply]
        exact (reducesTo_S16384x1024_S16384_d1.fiber_r2_a1 _ _).2 ⟨k, rfl⟩
      · rw [Equiv.symm_apply_apply]
        exact Prod.ext (hD k) rfl
  obtain ⟨hm, hb⟩ := fold_keeps (Host.argReduceFiber D (iotaInDim S16384x1024 32 1) reducesTo_S16384x1024_S16384_d1 (ix1 i))
    (constant (F := Ideal) S_ .f32 0x7F800000#32 (Shape.Idx.first h_S_), constantI S_ 32 0#32 (Shape.Idx.first h_S_))
  have htop : constant (F := Ideal) S_ .f32 0x7F800000#32 (Shape.Idx.first h_S_) = (⊤ : EReal) := by
    show Ideal.ofBits .f32 0x7F800000#32 = ⊤
    simp [Ideal.ofBits, Ideal.ieee]
  obtain ⟨k, hk⟩ : ∃ k : Fin 1024, (Host.argReduceFiber D (iotaInDim S16384x1024 32 1) reducesTo_S16384x1024_S16384_d1 (ix1 i)).foldl
      (reducer_argmin_f32_i32 (F := Ideal)) (constant (F := Ideal) S_ .f32 0x7F800000#32 (Shape.Idx.first h_S_), constantI S_ 32 0#32 (Shape.Idx.first h_S_))
      = (((d k : ℝ) : EReal), BitVec.ofNat 32 k.val) := by
    rcases List.mem_cons.1 hm with h | h
    · have h0 := hb _ (List.mem_cons_of_mem _ ((hmem _).2 ⟨0, rfl⟩))
      rw [h] at h0
      rcases h0 with h0 | ⟨h0, -⟩
      · rw [htop] at h0; exact absurd h0 not_top_lt
      · rw [htop] at h0; exact absurd h0.symm (EReal.coe_ne_top _)
    · exact (hmem _).1 h
  rw [hk] at hb ⊢
  refine congrArg (fun k : Fin 1024 => BitVec.ofNat 32 k.val) (Least.eq_first ⟨fun j => ?_, fun j hj => ?_⟩)
  · rcases hb _ (List.mem_cons_of_mem _ ((hmem _).2 ⟨j, rfl⟩)) with h | ⟨h, -⟩
    · exact (EReal.coe_lt_coe_iff.1 h).le
    · exact (EReal.coe_eq_coe_iff.1 h).le
  · rcases hb _ (List.mem_cons_of_mem _ ((hmem _).2 ⟨j, rfl⟩)) with h | ⟨-, h⟩
    · exact absurd (EReal.coe_lt_coe_iff.1 h) hj.not_gt
    · rw [toInt_word k.isLt, toInt_word j.isLt] at h
      exact Fin.le_def.2 (by exact_mod_cast h)

/-- The distances of real rows to real codes. -/
theorem refD_at (R : FVec Ideal S16384x256 .f32) (E : FVec Ideal S1024x256 .f32) (x : Fin 16384 → Row) (e : Codes)
    (hR : ∀ i j, R (ix2 i j) = ((x i j : ℝ) : EReal)) (hE : ∀ k j, E (ix2 k j) = ((e k j : ℝ) : EReal)) (i : Fin 16384) (k : Fin 1024) :
    refD R E (ix2 i k) = ((dist (x i) e k : ℝ) : EReal) := by
  pointwise [refD]
  simp only [hR, hE, ofBits_two, ← EReal.coe_mul, coe_sum, ← EReal.coe_add, ← EReal.coe_sub]
  rfl

theorem refZ_at (E : FVec Ideal S1024x256 .f32) (I : IVec S16384 32) (k : Fin 1024) (i : Fin 16384) (j : Fin 256)
    (hI : I (ix1 i) = BitVec.ofNat 32 k.val) : refZ E I (ix2 i j) = E (ix2 k j) := by
  have hW : refW I (ix2 i 0) = BitVec.ofNat 32 k.val := by
    pointwise [refW]
    rw [hI]
    have h : IntOp.cmpi .slt (BitVec.ofNat 32 k.val) 0#32 = 0#1 := by
      have : ¬ ((k.val : Int) < 0) := by omega
      simp [IntOp.cmpi, BitVec.slt, toInt_word k.isLt, this]
    rw [h]; rfl
  unfold refZ
  pointwise
  have hg : Host.gather gather_S1024x256_S16384x1_S16384x256_1_0_n_n_0_1_1256 E (refW I) (ix2 i j) = E (ix2 k j) := by
    have := Routing.gather_row (nb := 1024) (B := 256) (n := 16384) gather_S1024x256_S16384x1_S16384x256_1_0_n_n_0_1_1256 rfl rfl rfl rfl rfl
      E (refW I) i j k (by rw [← ix2_eq_valueIdx]; exact hW) (by norm_num)
    rw [← ix2_eq_valueIdx, ← ix2_eq_valueIdx] at this
    exact this
  have hl : IntOp.cmpi .sge (BitVec.ofNat 32 k.val) 0#32 = 1#1 := by
    have : (0 : Int) ≤ k.val := by omega
    simp [IntOp.cmpi, BitVec.sle, toInt_word k.isLt, this]
  have hu : IntOp.cmpi .sle (BitVec.ofNat 32 k.val) 1023#32 = 1#1 := by
    have : (k.val : Int) ≤ 1023 := by omega
    have h2 : (1023#32).toInt = 1023 := by decide
    simp [IntOp.cmpi, BitVec.sle, toInt_word k.isLt, this, h2]
  have hx : ∀ y : Fin 1, refW I (ix2 i y) = BitVec.ofNat 32 k.val := fun y => by rw [Subsingleton.elim y 0, hW]
  simp only [hx, hl, hu, hg]
  rfl

theorem refM_at (Z R : FVec Ideal S16384x256 .f32) (z x : Fin 16384 → Row)
    (hR : ∀ i j, R (ix2 i j) = ((x i j : ℝ) : EReal)) (hZ : ∀ i j, Z (ix2 i j) = ((z i j : ℝ) : EReal)) :
    refM Z R ix0 = (((∑ i, ∑ j, (z i j - x i j) * (z i j - x i j)) / 4194304 : ℝ) : EReal) := by
  pointwise [refM]
  simp only [hR, hZ, ofBits_entries, ← EReal.coe_mul, coe_sum, ← EReal.coe_add, ← EReal.coe_sub]
  exact coe_div _ (by norm_num)

theorem refL_at (Z R : FVec Ideal S16384x256 .f32) (z x : Fin 16384 → Row)
    (hR : ∀ i j, R (ix2 i j) = ((x i j : ℝ) : EReal)) (hZ : ∀ i j, Z (ix2 i j) = ((z i j : ℝ) : EReal)) :
    refL Z R ix0 = (((∑ i, ∑ j, (z i j - x i j) * (z i j - x i j)) / 4194304
      + 1 / 4 * ((∑ i, ∑ j, (z i j - x i j) * (z i j - x i j)) / 4194304) : ℝ) : EReal) := by
  pointwise [refL]
  rw [refM_at Z R z x hR hZ, ofBits_quarter, ← EReal.coe_mul, ← EReal.coe_add]

end Cert.ReferenceIdeal.Line

end
end
-- ==== Proof.RefResults.lean ====
/- The reference's three results at an index, over the reals: four levels of residual quantisation of every row. -/
module

public import proofs.«01_k».proof.Proof.RefLevel

@[expose] public section

noncomputable section

namespace Cert.ReferenceIdeal.Line

open Cert.ReferenceIdeal Cert.ReferenceIdeal.Gen Idealize.ShloMosaic Cert.Rvq

section Level
variable (R : FVec Ideal S16384x256 .f32) (E : FVec Ideal S1024x256 .f32) (x : Fin 16384 → Row) (e : Codes)
  (hR : ∀ i j, R (ix2 i j) = ((x i j : ℝ) : EReal)) (hE : ∀ k j, E (ix2 k j) = ((e k j : ℝ) : EReal))
include hR hE

theorem refI_at (i : Fin 16384) : refI R E (ix1 i) = BitVec.ofNat 32 (code (x i) e).val := by
  rw [code_eq, refI_eq]
  exact argmin_at (refD R E) (dist (x i) e) i fun k => refD_at R E x e hR hE i k

theorem code_at (i : Fin 16384) (j : Fin 256) : refZ E (refI R E) (ix2 i j) = ((near (x i) e j : ℝ) : EReal) := by
  have h := refZ_at E _ (code (x i) e) i j (refI_at R E x e hR hE i)
  rw [h, hE]; rfl

theorem stp_at (i : Fin 16384) (j : Fin 256) : stp R E (ix2 i j) = ((near (x i) e j : ℝ) : EReal) := by
  pointwise [stp, refT]
  rw [code_at R E x e hR hE, hR, ← EReal.coe_sub, ← EReal.coe_add]
  congr 1; ring

theorem nxt_at (i : Fin 16384) (j : Fin 256) : nxt R E (ix2 i j) = ((left (x i) e j : ℝ) : EReal) := by
  pointwise [nxt]
  rw [stp_at R E x e hR hE, hR, ← EReal.coe_sub]; rfl

theorem los_at : los R E ix0 = (((∑ i, gap (x i) e) / 4194304 + 1 / 4 * ((∑ i, gap (x i) e) / 4194304) : ℝ) : EReal) :=
  refL_at (refZ E (refI R E)) R (fun i => near (x i) e) x hR (code_at R E x e hR hE)

end Level

section Results
variable (X : FVec Ideal S16384x256 .f32) (C : FVec Ideal S4x1024x256 .f32) (x : Fin 16384 → Row) (c : Fin 4 → Codes)
  (hX : ∀ i j, X (ix2 i j) = ((x i j : ℝ) : EReal)) (hC : ∀ l k j, C (ix3 l k j) = ((c l k j : ℝ) : EReal))

section Tables
include hC
theorem tab0_at (k : Fin 1024) (j : Fin 256) : tab0 C (ix2 k j) = ((c 0 k j : ℝ) : EReal) := by
  pointwise [tab0]; exact hC 0 k j
theorem tab1_at (k : Fin 1024) (j : Fin 256) : tab1 C (ix2 k j) = ((c 1 k j : ℝ) : EReal) := by
  pointwise [tab1]; exact hC 1 k j
theorem tab2_at (k : Fin 1024) (j : Fin 256) : tab2 C (ix2 k j) = ((c 2 k j : ℝ) : EReal) := by
  pointwise [tab2]; exact hC 2 k j
theorem tab3_at (k : Fin 1024) (j : Fin 256) : tab3 C (ix2 k j) = ((c 3 k j : ℝ) : EReal) := by
  pointwise [tab3]; exact hC 3 k j
end Tables

include hX hC
theorem row1_at (i : Fin 16384) (j : Fin 256) : res1 X C (ix2 i j) = ((res (x i) c 1 j : ℝ) : EReal) :=
  nxt_at X (tab0 C) x (c 0) hX (tab0_at C c hC) i j
theorem row2_at (i : Fin 16384) (j : Fin 256) : res2 X C (ix2 i j) = ((res (x i) c 2 j : ℝ) : EReal) :=
  nxt_at (res1 X C) (tab1 C) (fun i => res (x i) c 1) (c 1) (row1_at X C x c hX hC) (tab1_at C c hC) i j
theorem row3_at (i : Fin 16384) (j : Fin 256) : res3 X C (ix2 i j) = ((res (x i) c 3 j : ℝ) : EReal) :=
  nxt_at (res2 X C) (tab2 C) (fun i => res (x i) c 2) (c 2) (row2_at X C x c hX hC) (tab2_at C c hC) i j

/-- The reference's first result. -/
theorem outSum_at (i : Fin 16384) (j : Fin 256) : outSum X C (ix2 i j) = ((total (x i) c j : ℝ) : EReal) := by
  pointwise [outSum]
  rw [stp_at X (tab0 C) x (c 0) hX (tab0_at C c hC), stp_at (res1 X C) (tab1 C) (fun i => res (x i) c 1) (c 1) (row1_at X C x c hX hC) (tab1_at C c hC),
    stp_at (res2 X C) (tab2 C) (fun i => res (x i) c 2) (c 2) (row2_at X C x c hX hC) (tab2_at C c hC),
    stp_at (res3 X C) (tab3 C) (fun i => res (x i) c 3) (c 3) (row3_at X C x c hX hC) (tab3_at C c hC)]
  simp only [← EReal.coe_add]
  rfl

/-- The reference's second result. -/
theorem outMean_at : outMean X C ix0 = ((meanLoss x c : ℝ) : EReal) := by
  have h0 := los_at X (tab0 C) x (c 0) hX (tab0_at C c hC)
  have h1 := los_at (res1 X C) (tab1 C) (fun i => res (x i) c 1) (c 1) (row1_at X C x c hX hC) (tab1_at C c hC)
  have h2 := los_at (res2 X C) (tab2 C) (fun i => res (x i) c 2) (c 2) (row2_at X C x c hX hC) (tab2_at C c hC)
  have h3 := los_at (res3 X C) (tab3 C) (fun i => res (x i) c 3) (c 3) (row3_at X C x c hX hC) (tab3_at C c hC)
  pointwise [outMean, stackLosses]
  rw [h0, h1, h2, h3, Fin.sum_univ_four, ofBits_four]
  simp only [Fin.isValue, Fin.val_zero, Fin.val_one, Fin.val_two, Fin.reduceFinMk, Fin.coe_ofNat_eq_mod, Nat.reduceMod, Nat.reduceSub, Nat.reduceLT,
    Nat.lt_irrefl, ↓reduceDIte, ← EReal.coe_add]
  exact coe_div _ (by norm_num)

end Results

/-- The stacked columns of indices, whatever the columns. -/
def stackOf (I0 I1 I2 I3 : IVec S16384 32) : IVec S16384x4 32 :=
  stackIndices (F := Ideal)
    (broadcastInDim S16384x1 ![0] bcast_S16384_S16384x1_0 I0) (broadcastInDim S16384x1 ![0] bcast_S16384_S16384x1_0 I1)
    (broadcastInDim S16384x1 ![0] bcast_S16384_S16384x1_0 I2) (broadcastInDim S16384x1 ![0] bcast_S16384_S16384x1_0 I3)

theorem stackOf_at (I0 I1 I2 I3 : IVec S16384 32) (n : Fin 4 → Fin 1024) (i : Fin 16384) (h0 : I0 (ix1 i) = BitVec.ofNat 32 (n 0).val)
    (h1 : I1 (ix1 i) = BitVec.ofNat 32 (n 1).val) (h2 : I2 (ix1 i) = BitVec.ofNat 32 (n 2).val)
    (h3 : I3 (ix1 i) = BitVec.ofNat 32 (n 3).val) (l : Fin 4) : stackOf I0 I1 I2 I3 (ix2 i l) = BitVec.ofNat 32 (n l).val := by
  pointwise [stackOf, stackIndices]
  rw [h0, h1, h2, h3]
  match l with
  | 0 => rfl
  | 1 => rfl
  | 2 => rfl
  | 3 => rfl

theorem outCols_eq (X : FVec Ideal S16384x256 .f32) (C : FVec Ideal S4x1024x256 .f32) :
    outCols X C = stackOf (refI X (tab0 C)) (refI (res1 X C) (tab1 C)) (refI (res2 X C) (tab2 C)) (refI (res3 X C) (tab3 C)) := rfl

/-- The reference's third result. -/
theorem outCols_at (X : FVec Ideal S16384x256 .f32) (C : FVec Ideal S4x1024x256 .f32) (x : Fin 16384 → Row) (c : Fin 4 → Codes)
    (hX : ∀ i j, X (ix2 i j) = ((x i j : ℝ) : EReal)) (hC : ∀ l k j, C (ix3 l k j) = ((c l k j : ℝ) : EReal))
    (i : Fin 16384) (l : Fin 4) : outCols X C (ix2 i l) = BitVec.ofNat 32 (cols (x i) c l).val := by
  rw [outCols_eq]
  exact stackOf_at _ _ _ _ (cols (x i) c) i
    (refI_at X (tab0 C) x (c 0) hX (tab0_at C c hC) i)
    (refI_at (res1 X C) (tab1 C) (fun i => res (x i) c 1) (c 1) (row1_at X C x c hX hC) (tab1_at C c hC) i)
    (refI_at (res2 X C) (tab2 C) (fun i => res (x i) c 2) (c 2) (row2_at X C x c hX hC) (tab2_at C c hC) i)
    (refI_at (res3 X C) (tab3 C) (fun i => res (x i) c 3) (c 3) (row3_at X C x c hX hC) (tab3_at C c hC) i) l

end Cert.ReferenceIdeal.Line

end
end
-- ==== Proof.Agree.lean ====
/- The two programs agree: when every entry of the arguments is a real number, each of the kernel's three results is the
   reference's. -/
module

public import proofs.«01_k».proof.Proof.KernelValue
public import proofs.«01_k».proof.Proof.RefResults

@[expose] public section

noncomputable section

namespace Cert.KernelIdeal.Level

open Cert.KernelIdeal Cert.KernelIdeal.Gen Idealize.ShloMosaic Idealize.ShloMosaic.TcCoe Idealize.SL.Sem Idealize.ShloMosaic.StableHlo Cert.Rvq
open Cert.ReferenceIdeal.Line (outSum outMean outCols outSum_at outMean_at outCols_at)

/-- What the kernel's run leaves in the three results and in the arguments. -/
theorem run_value {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12_0) = (dats m 0 c).arrAt 6 cfg0.N
      ∧ r.2.mem ((c.tc : Thread nD τ).loc main_v16) = lossOf ((outsAt0 m c lastPt.val lastPt.isLt).2.2)
      ∧ r.2.mem ((c.tc : Thread nD τ).loc main_v12_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1 6,
      ((h c).2 main_v16 (Pipeline.mem_restRefs_of main_v16 (by decide) (by decide))).trans (loss_arr m c),
      (h c).1 7,
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

variable (m : (ℓ : Loc nD τ sig) → Buf (Elt Ideal) ℓ) (c : Dev nD) (x : Fin 16384 → Row) (e : Fin 4 → Codes)
  (hX : ∀ i j, m ((c : Thread nD τ).loc main_arg0) (ix2 i j) = ((x i j : ℝ) : EReal))
  (hC : ∀ l k j, books m c (ix3 l k j) = ((e l k j : ℝ) : EReal))
include hX hC

theorem agree_sum : (dats m 0 c).arrAt 6 cfg0.N = outSum (F := Ideal) (m ((c : Thread nD τ).loc main_arg0)) (books m c) := by
  funext j
  rw [eq_ix2 j]
  exact (result_sum m c x e hX hC _ _).trans (outSum_at _ _ x e hX hC _ _).symm

theorem agree_mean : lossOf (F := Ideal) ((outsAt0 m c lastPt.val lastPt.isLt).2.2)
    = outMean (F := Ideal) (m ((c : Thread nD τ).loc main_arg0)) (books m c) := by
  funext j
  rw [show j = ix0 from funext fun a => a.elim0]
  exact (result_mean m c x e hX hC).trans (outMean_at _ _ x e hX hC).symm

theorem agree_cols : (dats m 0 c).arrAt 7 cfg0.N = outCols (F := Ideal) (m ((c : Thread nD τ).loc main_arg0)) (books m c) := by
  funext j
  rw [eq_ix2 j]
  exact (result_cols m c x e hX hC _ _).trans (outCols_at _ _ x e hX hC _ _).symm

end Cert.KernelIdeal.Level

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Finite
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference's frame: its run, and the counters of a program without semaphores. -/
theorem frame_ri (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2, sem_eq_zero_of_no_sems (by decide) r.2⟩)
    (Cert.ReferenceIdeal.Line.run_value (F := Ideal) m g)

attribute [local instance] Cert.Pre_finite.facts

/-- On real arguments both programs leave the reference's three results. -/
theorem algebraic : Cert.algebraic_KernelIdeal_ReferenceIdeal_pre_finite := by
  intro m g m' g' hp hm
  refine ⟨fun c => Cert.ReferenceIdeal.Line.outSum (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Line.outMean (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Line.outCols (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    ?_, ?_⟩
  · refine (θ_run Cert.KernelIdeal.defs _ _).mono (fun r h c => ?_) (Cert.KernelIdeal.Level.run_value (F := Ideal) m g)
    obtain ⟨h0, h1, h2, ha, hb⟩ := h c
    obtain ⟨rx, rc⟩ := Cert.Pre_finite.real_args _ _ (hp c)
    exact ⟨h0.trans (Cert.KernelIdeal.Level.agree_sum m c _ _ (fun _ _ => rx _) (fun _ _ _ => rc _)),
      h1.trans (Cert.KernelIdeal.Level.agree_mean m c _ _ (fun _ _ => rx _) (fun _ _ _ => rc _)),
      h2.trans (Cert.KernelIdeal.Level.agree_cols m c _ _ (fun _ _ => rx _) (fun _ _ _ => rc _)), ha, hb⟩
  · refine (θ_run Cert.ReferenceIdeal.defs _ _).mono (fun r h c => ?_) (Cert.ReferenceIdeal.Line.run_value (F := Ideal) m' g')
    obtain ⟨h0, h1, h2, ha, hb⟩ := h c
    obtain ⟨e0, e1⟩ := hm c
    rw [e0, e1] at h0 h1 h2
    exact ⟨h0, h1, h2, ha, hb⟩

theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  fun m ρ _ => frame_ri m ρ, fun m ρ _ => frame_ri m ρ, trivial, algebraic⟩

end Cert.Proof

end
